-- ==== Defs.lean ====
def Pre_Kernel [hPre_steps_in_range : Cert.Pre_steps_in_range.Facts] (m : (ℓ : Loc Cert.Kernel.nD Cert.Kernel.τ Cert.Kernel.sig) → Buf (Elt Bits) ℓ) : Prop :=
  ∀ c : Dev Cert.Kernel.nD,
    (Cert.Pre_steps_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_steps_in_range : Cert.Pre_steps_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_steps_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_absorbing_chain [hPre_absorbing_chain : Cert.Pre_absorbing_chain.Facts] (m : (ℓ : Loc Cert.KernelIdeal.nD Cert.KernelIdeal.τ Cert.KernelIdeal.sig) → Buf (Elt Ideal) ℓ) : Prop :=
  ∀ c : Dev Cert.KernelIdeal.nD,
    (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_absorbing_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_absorbing_chain [hPre_absorbing_chain : Cert.Pre_absorbing_chain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_absorbing_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def quiescent_Kernel [hKernel : Cert.Kernel.Facts] [hPre_steps_in_range : Cert.Pre_steps_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_steps_in_range : Cert.Pre_steps_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_absorbing_chain [hKernelIdeal : Cert.KernelIdeal.Facts] [hPre_absorbing_chain : Cert.Pre_absorbing_chain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_absorbing_chain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_absorbing_chain [hReferenceIdeal : Cert.ReferenceIdeal.Facts] [hPre_absorbing_chain : Cert.Pre_absorbing_chain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_absorbing_chain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_absorbing_chain [hKernelIdeal : Cert.KernelIdeal.Facts] [hReferenceIdeal : Cert.ReferenceIdeal.Facts] [hPre_absorbing_chain : Cert.Pre_absorbing_chain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_absorbing_chain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_steps_in_range : Cert.Pre_steps_in_range.Facts) (hPre_absorbing_chain : Cert.Pre_absorbing_chain.Facts),
    quiescent_Kernel (hKernel := hKernel) (hPre_steps_in_range := hPre_steps_in_range)
    ∧ quiescent_KernelIdeal (hKernelIdeal := hKernelIdeal) (hPre_steps_in_range := hPre_steps_in_range)
    ∧ quiescent_KernelIdeal_pre_absorbing_chain (hKernelIdeal := hKernelIdeal) (hPre_absorbing_chain := hPre_absorbing_chain)
    ∧ quiescent_ReferenceIdeal (hReferenceIdeal := hReferenceIdeal)
    ∧ quiescent_ReferenceIdeal_pre_absorbing_chain (hReferenceIdeal := hReferenceIdeal) (hPre_absorbing_chain := hPre_absorbing_chain)
    ∧ preserves_Kernel_KernelIdeal
    ∧ algebraic_KernelIdeal_ReferenceIdeal_pre_absorbing_chain (hKernelIdeal := hKernelIdeal) (hReferenceIdeal := hReferenceIdeal) (hPre_absorbing_chain := hPre_absorbing_chain)
-- ==== Pre_absorbing_chain.lean ====
abbrev S4x2048 : Shape := ⟨2, ![4, 2048]⟩
abbrev S4 : Shape := ⟨1, ![4]⟩
abbrev S4x2048x256 : Shape := ⟨3, ![4, 2048, 256]⟩
abbrev S100x256x256 : Shape := ⟨3, ![100, 256, 256]⟩
abbrev S256x1024 : Shape := ⟨2, ![256, 1024]⟩
abbrev S101x1024 : Shape := ⟨2, ![101, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S_ : Shape := ⟨0, ![]⟩
abbrev S100x1x1 : Shape := ⟨3, ![100, 1, 1]⟩

class Facts : Prop where
  bcast_S_S4 : S_.BroadcastsInDim S4 (![] : Fin 0 → Fin S4.rank)
  bcast_S_S4x2048 : S_.BroadcastsInDim S4x2048 (![] : Fin 0 → Fin S4x2048.rank)
  bcast_S_S100x256x256 : S_.BroadcastsInDim S100x256x256 (![] : Fin 0 → Fin S100x256x256.rank)
  slices_S100x256x256_S100x1x1_0_255_255 : S100x256x256.Slices ![0, 255, 255] S100x1x1
  bcast_S100x1x1_S100x256x256_0_1_2 : S100x1x1.BroadcastsInDim S100x256x256 (![0, 1, 2] : Fin 3 → Fin S100x256x256.rank)
  slices_S100x256x256_S100x1x1_0_0_255 : S100x256x256.Slices ![0, 0, 255] S100x1x1
  slices_S100x256x256_S100x1x1_0_0_0 : S100x256x256.Slices ![0, 0, 0] S100x1x1
  bcast_S_S256x1024 : S_.BroadcastsInDim S256x1024 (![] : Fin 0 → Fin S256x1024.rank)
  bcast_S_S101x1024 : S_.BroadcastsInDim S101x1024 (![] : Fin 0 → Fin S101x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x256 : S_.BroadcastsInDim S1024x256 (![] : Fin 0 → Fin S1024x256.rank)
  bcast_S_S256 : S_.BroadcastsInDim S256 (![] : Fin 0 → Fin S256.rank)

variable [Facts]

def fn_part2 {F : FTy → Type} [FloatOps F] (main_arg9 : FVec F S1024x256 .f32) (main_arg10 : FVec F S256 .f32) (main_v4 : IVec S4 1) (main_v9 : IVec S4x2048 1) (main_v27 : IVec S100x256x256 1) (main_v30 : IVec S256x1024 1) (main_v33 : IVec S101x1024 1) (main_v36 : IVec S1024x1024 1) (main_v37 : FVec F S1024 .f32) : IVec S4 1 × IVec S4x2048 1 × IVec S100x256x256 1 × IVec S256x1024 1 × IVec S101x1024 1 × IVec S1024x1024 1 × IVec S1024 1 × IVec S1024x256 1 × IVec S256 1 :=
  let main_cst_8 : FVec F S_ .f32 := constant S_ .f32 0x7F800000#32
  let main_v38 : FVec F S1024 .f32 := broadcastInDim S1024 ![] bcast_S_S1024 main_cst_8
  let main_v39 : IVec S1024 1 := cmpf .olt main_v37 main_v38
  let main_v40 : FVec F S1024x256 .f32 := Host.absf main_arg9
  let main_cst_9 : FVec F S_ .f32 := constant S_ .f32 0x7F800000#32
  let main_v41 : FVec F S1024x256 .f32 := broadcastInDim S1024x256 ![] bcast_S_S1024x256 main_cst_9
  let main_v42 : IVec S1024x256 1 := cmpf .olt main_v40 main_v41
  let main_v43 : FVec F S256 .f32 := Host.absf main_arg10
  let main_cst_10 : FVec F S_ .f32 := constant S_ .f32 0x7F800000#32
  let main_v44 : FVec F S256 .f32 := broadcastInDim S256 ![] bcast_S_S256 main_cst_10
  let main_v45 : IVec S256 1 := cmpf .olt main_v43 main_v44
  (main_v4, main_v9, main_v27, main_v30, main_v33, main_v36, main_v39, main_v42, main_v45)

def fn_part1 {F : FTy → Type} [FloatOps F] (main_arg4 : FVec F S100x256x256 .f32) (main_arg5 : FVec F S256x1024 .f32) (main_arg6 : FVec F S101x1024 .f32) (main_arg7 : FVec F S1024x1024 .f32) (main_arg8 : FVec F S1024 .f32) (main_arg9 : FVec F S1024x256 .f32) (main_arg10 : FVec F S256 .f32) (main_v4 : IVec S4 1) (main_v9 : IVec S4x2048 1) (main_v10 : IVec S100x256x256 32) (main_v11 : IVec S100x256x256 32) (main_v12 : FVec F S100x256x256 .f32) (main_v14 : IVec S100x256x256 1) (main_v16 : IVec S100x256x256 1) : IVec S4 1 × IVec S4x2048 1 × IVec S100x256x256 1 × IVec S256x1024 1 × IVec S101x1024 1 × IVec S1024x1024 1 × IVec S1024 1 × IVec S1024x256 1 × IVec S256 1 :=
  let main_v17 : FVec F S100x1x1 .f32 := (extractStridedSlice S100x1x1 ![0, 255, 255] · slices_S100x256x256_S100x1x1_0_255_255) main_arg4
  let main_v18 : FVec F S100x256x256 .f32 := broadcastInDim S100x256x256 ![0, 1, 2] bcast_S100x1x1_S100x256x256_0_1_2 main_v17
  let main_v19 : FVec F S100x1x1 .f32 := (extractStridedSlice S100x1x1 ![0, 0, 255] · slices_S100x256x256_S100x1x1_0_0_255) main_arg4
  let main_v20 : FVec F S100x256x256 .f32 := broadcastInDim S100x256x256 ![0, 1, 2] bcast_S100x1x1_S100x256x256_0_1_2 main_v19
  let main_v21 : FVec F S100x256x256 .f32 := select main_v16 main_v18 main_v20
  let main_v22 : IVec S100x256x256 1 := cmpi .eq main_v10 main_v11
  let main_v23 : FVec F S100x1x1 .f32 := (extractStridedSlice S100x1x1 ![0, 0, 0] · slices_S100x256x256_S100x1x1_0_0_0) main_arg4
  let main_v24 : FVec F S100x256x256 .f32 := broadcastInDim S100x256x256 ![0, 1, 2] bcast_S100x1x1_S100x256x256_0_1_2 main_v23
  let main_v25 : FVec F S100x256x256 .f32 := select main_v22 main_v24 main_v12
  let main_v26 : FVec F S100x256x256 .f32 := select main_v14 main_v21 main_v25
  let main_v27 : IVec S100x256x256 1 := cmpf .oeq main_arg4 main_v26
  let main_v28 : FVec F S256x1024 .f32 := Host.absf main_arg5
  let main_cst_5 : FVec F S_ .f32 := constant S_ .f32 0x7F800000#32
  let main_v29 : FVec F S256x1024 .f32 := broadcastInDim S256x1024 ![] bcast_S_S256x1024 main_cst_5
  let main_v30 : IVec S256x1024 1 := cmpf .olt main_v28 main_v29
  let main_v31 : FVec F S101x1024 .f32 := Host.absf main_arg6
  let main_cst_6 : FVec F S_ .f32 := constant S_ .f32 0x7F800000#32
  let main_v32 : FVec F S101x1024 .f32 := broadcastInDim S101x1024 ![] bcast_S_S101x1024 main_cst_6
  let main_v33 : IVec S101x1024 1 := cmpf .olt main_v31 main_v32
  let main_v34 : FVec F S1024x1024 .f32 := Host.absf main_arg7
  let main_cst_7 : FVec F S_ .f32 := constant S_ .f32 0x7F800000#32
  let main_v35 : FVec F S1024x1024 .f32 := broadcastInDim S1024x1024 ![] bcast_S_S1024x1024 main_cst_7
  let main_v36 : IVec S1024x1024 1 := cmpf .olt main_v34 main_v35
  let main_v37 : FVec F S1024 .f32 := Host.absf main_arg8
  fn_part2 (F := F) main_arg9 main_arg10 main_v4 main_v9 main_v27 main_v30 main_v33 main_v36 main_v37

def fn {F : FTy → Type} [FloatOps F] (main_arg0 : IVec S4x2048 32) (main_arg1 : IVec S4 32) (main_arg2 : FVec F S4x2048x256 .f32) (main_arg3 : FVec F S100x256x256 .f32) (main_arg4 : FVec F S100x256x256 .f32) (main_arg5 : FVec F S256x1024 .f32) (main_arg6 : FVec F S101x1024 .f32) (main_arg7 : FVec F S1024x1024 .f32) (main_arg8 : FVec F S1024 .f32) (main_arg9 : FVec F S1024x256 .f32) (main_arg10 : FVec F S256 .f32) : IVec S4 1 × IVec S4x2048 1 × IVec S100x256x256 1 × IVec S256x1024 1 × IVec S101x1024 1 × IVec S1024x1024 1 × IVec S1024 1 × IVec S1024x256 1 × IVec S256 1 :=
  let main_c : IVec S_ 32 := constantI S_ 32 1#32
  let main_v0 : IVec S4 32 := broadcastInDim S4 ![] bcast_S_S4 main_c
  let main_v1 : IVec S4 1 := cmpi .sge main_arg1 main_v0
  let main_c_0 : IVec S_ 32 := constantI S_ 32 100#32
  let main_v2 : IVec S4 32 := broadcastInDim S4 ![] bcast_S_S4 main_c_0
  let main_v3 : IVec S4 1 := cmpi .sle main_arg1 main_v2
  let main_v4 : IVec S4 1 := andi main_v1 main_v3
  let main_c_1 : IVec S_ 32 := constantI S_ 32 0#32
  let main_v5 : IVec S4x2048 32 := broadcastInDim S4x2048 ![] bcast_S_S4x2048 main_c_1
  let main_v6 : IVec S4x2048 1 := cmpi .sge main_arg0 main_v5
  let main_c_2 : IVec S_ 32 := constantI S_ 32 256#32
  let main_v7 : IVec S4x2048 32 := broadcastInDim S4x2048 ![] bcast_S_S4x2048 main_c_2
  let main_v8 : IVec S4x2048 1 := cmpi .slt main_arg0 main_v7
  let main_v9 : IVec S4x2048 1 := andi main_v6 main_v8
  let main_v10 : IVec S100x256x256 32 := iotaInDim S100x256x256 32 1
  let main_v11 : IVec S100x256x256 32 := iotaInDim S100x256x256 32 2
  let main_cst : FVec F S_ .f32 := constant S_ .f32 0x00000000#32
  let main_v12 : FVec F S100x256x256 .f32 := broadcastInDim S100x256x256 ![] bcast_S_S100x256x256 main_cst
  let main_c_3 : IVec S_ 32 := constantI S_ 32 255#32
  let main_v13 : IVec S100x256x256 32 := broadcastInDim S100x256x256 ![] bcast_S_S100x256x256 main_c_3
  let main_v14 : IVec S100x256x256 1 := cmpi .eq main_v11 main_v13
  let main_c_4 : IVec S_ 32 := constantI S_ 32 255#32
  let main_v15 : IVec S100x256x256 32 := broadcastInDim S100x256x256 ![] bcast_S_S100x256x256 main_c_4
  let main_v16 : IVec S100x256x256 1 := cmpi .eq main_v10 main_v15
  fn_part1 (F := F) main_arg4 main_arg5 main_arg6 main_arg7 main_arg8 main_arg9 main_arg10 main_v4 main_v9 main_v10 main_v11 main_v12 main_v14 main_v16
-- ==== Pre_steps_in_range.lean ====
abbrev S4x2048 : Shape := ⟨2, ![4, 2048]⟩
abbrev S4 : Shape := ⟨1, ![4]⟩
abbrev S4x2048x256 : Shape := ⟨3, ![4, 2048, 256]⟩
abbrev S100x256x256 : Shape := ⟨3, ![100, 256, 256]⟩
abbrev S256x1024 : Shape := ⟨2, ![256, 1024]⟩
abbrev S101x1024 : Shape := ⟨2, ![101, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4x2048 32) (main_arg1 : IVec S4 32) (main_arg2 : FVec F S4x2048x256 .f32) (main_arg3 : FVec F S100x256x256 .f32) (main_arg4 : FVec F S100x256x256 .f32) (main_arg5 : FVec F S256x1024 .f32) (main_arg6 : FVec F S101x1024 .f32) (main_arg7 : FVec F S1024x1024 .f32) (main_arg8 : FVec F S1024 .f32) (main_arg9 : FVec F S1024x256 .f32) (main_arg10 : FVec F S256 .f32) : IVec S4 1 :=
  let main_c : IVec S_ 32 := constantI S_ 32 1#32
  let main_v0 : IVec S4 32 := broadcastInDim S4 ![] bcast_S_S4 main_c
  let main_v1 : IVec S4 1 := cmpi .sge main_arg1 main_v0
  let main_c_0 : IVec S_ 32 := constantI S_ 32 100#32
  let main_v2 : IVec S4 32 := broadcastInDim S4 ![] bcast_S_S4 main_c_0
  let main_v3 : IVec S4 1 := cmpi .sle main_arg1 main_v2
  let main_v4 : IVec S4 1 := andi main_v1 main_v3
  main_v4
-- ==== Kernel.lean ====
abbrev S4x2048 : Shape := ⟨2, ![4, 2048]⟩
abbrev S4 : Shape := ⟨1, ![4]⟩
abbrev S4x2048x256 : Shape := ⟨3, ![4, 2048, 256]⟩
abbrev S100x256x256 : Shape := ⟨3, ![100, 256, 256]⟩
abbrev S256x1024 : Shape := ⟨2, ![256, 1024]⟩
abbrev S101x1024 : Shape := ⟨2, ![101, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S16x1x512 : Shape := ⟨3, ![16, 1, 512]⟩
abbrev S101x1x1024 : Shape := ⟨3, ![101, 1, 1024]⟩
abbrev S1x1024 : Shape := ⟨2, ![1, 1024]⟩
abbrev S1x256 : Shape := ⟨2, ![1, 256]⟩
abbrev S1x1 : Shape := ⟨2, ![1, 1]⟩
abbrev S1x1x512 : Shape := ⟨3, ![1, 1, 512]⟩
abbrev S1x512x256 : Shape := ⟨3, ![1, 512, 256]⟩
abbrev S1x8x256 : Shape := ⟨3, ![1, 8, 256]⟩
abbrev S1 : Shape := ⟨1, ![1]⟩
abbrev S1x1x1024 : Shape := ⟨3, ![1, 1, 1024]⟩
abbrev S512x256 : Shape := ⟨2, ![512, 256]⟩
abbrev S512 : Shape := ⟨1, ![512]⟩
abbrev S1x1x1 : Shape := ⟨3, ![1, 1, 1]⟩
abbrev S512x1 : Shape := ⟨2, ![512, 1]⟩
abbrev S512x1024 : Shape := ⟨2, ![512, 1024]⟩
abbrev S_ : Shape := ⟨0, ![]⟩

abbrev nBuf : Space → Nat
  | .hbm => 17
  | .vmem => 27
  | .smem => 3
  | _ => 0

abbrev bufTy : (tb : Table) → Fin (tcTables nBuf tb) → BufTy
  | .hbm, ⟨0, _⟩ => ⟨S4x2048, .i32⟩
  | .hbm, ⟨1, _⟩ => ⟨S4x2048x256, .f32⟩
  | .hbm, ⟨2, _⟩ => ⟨S100x256x256, .f32⟩
  | .hbm, ⟨3, _⟩ => ⟨S100x256x256, .f32⟩
  | .hbm, ⟨4, _⟩ => ⟨S256x1024, .f32⟩
  | .hbm, ⟨5, _⟩ => ⟨S101x1024, .f32⟩
  | .hbm, ⟨6, _⟩ => ⟨S1024x1024, .f32⟩
  | .hbm, ⟨7, _⟩ => ⟨S1024, .f32⟩
  | .hbm, ⟨8, _⟩ => ⟨S1024x256, .f32⟩
  | .hbm, ⟨9, _⟩ => ⟨S256, .f32⟩
  | .hbm, ⟨10, _⟩ => ⟨S16x1x512, .i32⟩
  | .hbm, ⟨11, _⟩ => ⟨S101x1x1024, .f32⟩
  | .hbm, ⟨12, _⟩ => ⟨S1x1024, .f32⟩
  | .hbm, ⟨13, _⟩ => ⟨S1x256, .f32⟩
  | .hbm, ⟨14, _⟩ => ⟨S1x1, .f32⟩
  | .hbm, ⟨15, _⟩ => ⟨S1x1, .f32⟩
  | .hbm, ⟨16, _⟩ => ⟨S_, .f32⟩
  | .local _ .vmem, ⟨0, _⟩ => ⟨S1x1x512, .i32⟩
  | .local _ .vmem, ⟨1, _⟩ => ⟨S1x1x512, .i32⟩
  | .local _ .vmem, ⟨2, _⟩ => ⟨S1x512x256, .f32⟩
  | .local _ .vmem, ⟨3, _⟩ => ⟨S1x1x512, .i32⟩
  | .local _ .vmem, ⟨4, _⟩ => ⟨S1x1x512, .i32⟩
  | .local _ .vmem, ⟨5, _⟩ => ⟨S1x512x256, .f32⟩
  | .local _ .vmem, ⟨6, _⟩ => ⟨S1x512x256, .f32⟩
  | .local _ .vmem, ⟨7, _⟩ => ⟨S1x8x256, .f32⟩
  | .local _ .vmem, ⟨8, _⟩ => ⟨S1x8x256, .f32⟩
  | .local _ .vmem, ⟨9, _⟩ => ⟨S1x8x256, .f32⟩
  | .local _ .vmem, ⟨10, _⟩ => ⟨S1x8x256, .f32⟩
  | .local _ .vmem, ⟨11, _⟩ => ⟨S1x8x256, .f32⟩
  | .local _ .vmem, ⟨12, _⟩ => ⟨S1x8x256, .f32⟩
  | .local _ .vmem, ⟨13, _⟩ => ⟨S1x8x256, .f32⟩
  | .local _ .vmem, ⟨14, _⟩ => ⟨S1x8x256, .f32⟩
  | .local _ .vmem, ⟨15, _⟩ => ⟨S1x8x256, .f32⟩
  | .local _ .vmem, ⟨16, _⟩ => ⟨S1x8x256, .f32⟩
  | .local _ .vmem, ⟨17, _⟩ => ⟨S1x8x256, .f32⟩
  | .local _ .vmem, ⟨18, _⟩ => ⟨S1x8x256, .f32⟩
  | .local _ .vmem, ⟨19, _⟩ => ⟨S256x1024, .f32⟩
  | .local _ .vmem, ⟨20, _⟩ => ⟨S1x1x1024, .f32⟩
  | .local _ .vmem, ⟨21, _⟩ => ⟨S1x1x1024, .f32⟩
  | .local _ .vmem, ⟨22, _⟩ => ⟨S1024x1024, .f32⟩
  | .local _ .vmem, ⟨23, _⟩ => ⟨S1x1024, .f32⟩
  | .local _ .vmem, ⟨24, _⟩ => ⟨S1024x256, .f32⟩
  | .local _ .vmem, ⟨25, _⟩ => ⟨S1x256, .f32⟩
  | .local _ .vmem, ⟨26, _⟩ => ⟨S512x256, .f32⟩
  | .local _ .smem, ⟨0, _⟩ => ⟨S4, .i32⟩
  | .local _ .smem, ⟨1, _⟩ => ⟨S1x1, .f32⟩
  | .local _ .smem, ⟨2, _⟩ => ⟨S1x1, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_stg16_0 : Ref sig .tc := ⟨.smem, 1, rfl⟩
abbrev cc0_stg17_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.addi v1 c1_i32
  let c15_i32 : BitVec 32 := 15#32
  let v3 : BitVec 32 := Scalar.minsi v2 c15_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let v4 : BitVec 32 := Scalar.divsi v3 c4_i32_0
  let c1_i32_5 : BitVec 32 := 1#32
  let v19 : BitVec 32 := Scalar.subi v4 c1_i32_5
  let v20 : BitVec 32 := Scalar.select v18 v19 v4
  let v21 : Index := Scalar.indexCast v20
  ![v21.toNat]
def k0_off2 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c15_i32 : BitVec 32 := 15#32
  let v3 : BitVec 32 := Scalar.minsi v2 c15_i32
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c15_i32 : BitVec 32 := 15#32
  let v3 : BitVec 32 := Scalar.minsi v2 c15_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli arg0 c4_i32_6
  let v22 : BitVec 32 := Scalar.addi v21 arg1
  let c1_i32_7 : BitVec 32 := 1#32
  let v23 : BitVec 32 := Scalar.addi v22 c1_i32_7
  let c15_i32_8 : BitVec 32 := 15#32
  let v24 : BitVec 32 := Scalar.minsi v23 c15_i32_8
  let c4_i32_9 : BitVec 32 := 4#32
  let c0_i32_10 : BitVec 32 := 0#32
  let v25 : BitVec 1 := Scalar.cmpi .eq c4_i32_9 c0_i32_10
  let c1_i32_11 : BitVec 32 := 1#32
  let v26 : BitVec 32 := Scalar.select v25 c1_i32_11 c4_i32_9
  let v27 : BitVec 32 := Scalar.remsi v24 v26
  let c0_i32_12 : BitVec 32 := 0#32
  let v28 : BitVec 1 := Scalar.cmpi .ne v27 c0_i32_12
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let v32 : BitVec 1 := Scalar.andi v31 v28
  let v33 : BitVec 32 := Scalar.addi v27 v26
  let v34 : BitVec 32 := Scalar.select v32 v33 v27
  let c0_i32_15 : BitVec 32 := 0#32
  let c0_i32_16 : BitVec 32 := 0#32
  ![v20.toNat, v34.toNat, c0_i32_15.toNat]

def cc0_transform_4 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c15_i32 : BitVec 32 := 15#32
  let v3 : BitVec 32 := Scalar.minsi v2 c15_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : Index := Scalar.indexCast v20
  let v22 : BitVec 32 := pf.at 0 (Rect.unit (s := S4) ![v21.toNat] S1.size (k0_off1_inb i)) numel1_S1
  let c1_i32_6 : BitVec 32 := 1#32
  let v23 : BitVec 32 := Scalar.subi v22 c1_i32_6
  let c0_i32_7 : BitVec 32 := 0#32
  let c0_i32_8 : BitVec 32 := 0#32
  let c0_i32_9 : BitVec 32 := 0#32
  ![v23.toNat, c0_i32_7.toNat, c0_i32_8.toNat]

def cc0_transform_5 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c15_i32 : BitVec 32 := 15#32
  let v3 : BitVec 32 := Scalar.minsi v2 c15_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : Index := Scalar.indexCast v20
  let v22 : BitVec 32 := pf.at 0 (Rect.unit (s := S4) ![v21.toNat] S1.size (k0_off1_inb i)) numel1_S1
  let c1_i32_6 : BitVec 32 := 1#32
  let v23 : BitVec 32 := Scalar.subi v22 c1_i32_6
  let c31_i32 : BitVec 32 := 31#32
  let c0_i32_7 : BitVec 32 := 0#32
  let c0_i32_8 : BitVec 32 := 0#32
  ![v23.toNat, c31_i32.toNat, c0_i32_7.toNat]

def cc0_transform_6 (k0_off2_inb : ∀ i : grid0.Coords, ∀ a, (k0_off2 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off2_inb i)) numel1_S1
  let c1_i32 : BitVec 32 := 1#32
  let v2 : BitVec 32 := Scalar.subi v1 c1_i32
  let c0_i32 : BitVec 32 := 0#32
  let c0_i32_0 : BitVec 32 := 0#32
  let c0_i32_1 : BitVec 32 := 0#32
  ![v2.toNat, c0_i32.toNat, c0_i32_0.toNat]

def cc0_transform_7 (k0_off2_inb : ∀ i : grid0.Coords, ∀ a, (k0_off2 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off2_inb i)) numel1_S1
  let c1_i32 : BitVec 32 := 1#32
  let v2 : BitVec 32 := Scalar.subi v1 c1_i32
  let c31_i32 : BitVec 32 := 31#32
  let c0_i32 : BitVec 32 := 0#32
  let c0_i32_0 : BitVec 32 := 0#32
  ![v2.toNat, c31_i32.toNat, c0_i32.toNat]

def cc0_transform_8 (k0_off2_inb : ∀ i : grid0.Coords, ∀ a, (k0_off2 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off2_inb i)) numel1_S1
  let c2_i32 : BitVec 32 := 2#32
  let v2 : BitVec 32 := Scalar.maxsi v1 c2_i32
  let c2_i32_0 : BitVec 32 := 2#32
  let v3 : BitVec 32 := Scalar.subi v2 c2_i32_0
  let c0_i32 : BitVec 32 := 0#32
  let c0_i32_1 : BitVec 32 := 0#32
  let c0_i32_2 : BitVec 32 := 0#32
  ![v3.toNat, c0_i32.toNat, c0_i32_1.toNat]

def cc0_transform_9 (k0_off2_inb : ∀ i : grid0.Coords, ∀ a, (k0_off2 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off2_inb i)) numel1_S1
  let c2_i32 : BitVec 32 := 2#32
  let v2 : BitVec 32 := Scalar.maxsi v1 c2_i32
  let c2_i32_0 : BitVec 32 := 2#32
  let v3 : BitVec 32 := Scalar.subi v2 c2_i32_0
  let c31_i32 : BitVec 32 := 31#32
  let c0_i32 : BitVec 32 := 0#32
  let c0_i32_1 : BitVec 32 := 0#32
  ![v3.toNat, c31_i32.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (k0_off2_inb : ∀ i : grid0.Coords, ∀ a, (k0_off2 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S4x2048 : Shape := ⟨2, ![4, 2048]⟩
abbrev S4 : Shape := ⟨1, ![4]⟩
abbrev S4x2048x256 : Shape := ⟨3, ![4, 2048, 256]⟩
abbrev S100x256x256 : Shape := ⟨3, ![100, 256, 256]⟩
abbrev S256x1024 : Shape := ⟨2, ![256, 1024]⟩
abbrev S101x1024 : Shape := ⟨2, ![101, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S_ : Shape := ⟨0, ![]⟩
abbrev S4x1 : Shape := ⟨2, ![4, 1]⟩
abbrev S4x2048x1 : Shape := ⟨3, ![4, 2048, 1]⟩
abbrev S4x2048x2 : Shape := ⟨3, ![4, 2048, 2]⟩
abbrev S4x2048x1024 : Shape := ⟨3, ![4, 2048, 1024]⟩
abbrev S4x1024 : Shape := ⟨2, ![4, 1024]⟩
abbrev S4x1x1024 : Shape := ⟨3, ![4, 1, 1024]⟩
abbrev S1x1x1024 : Shape := ⟨3, ![1, 1, 1024]⟩
abbrev S1x1x256 : Shape := ⟨3, ![1, 1, 256]⟩
abbrev S4x2048x1x1 : Shape := ⟨4, ![4, 2048, 1, 1]⟩
abbrev S1 : Shape := ⟨1, ![1]⟩
abbrev S1x1x1x1 : Shape := ⟨4, ![1, 1, 1, 1]⟩

abbrev nBuf : Space → Nat
  | .hbm => 131
  | .vmem => 0
  | .smem => 0
  | _ => 0

abbrev hbmTy0_0 (i : Nat) : BufTy := match i % 128 with
  | 0 => ⟨S4x2048, .i32⟩
  | 1 => ⟨S4, .i32⟩
  | 2 => ⟨S4x2048x256, .f32⟩
  | 3 => ⟨S100x256x256, .f32⟩
  | 4 => ⟨S100x256x256, .f32⟩
  | 5 => ⟨S256x1024, .f32⟩
  | 6 => ⟨S101x1024, .f32⟩
  | 7 => ⟨S1024x1024, .f32⟩
  | 8 => ⟨S1024, .f32⟩
  | 9 => ⟨S1024x256, .f32⟩
  | 10 => ⟨S256, .f32⟩
  | 11 => ⟨S_, .i32⟩
  | 12 => ⟨S4, .i32⟩
  | 13 => ⟨S4, .i32⟩
  | 14 => ⟨S4x1, .i32⟩
  | 15 => ⟨S_, .i32⟩
  | 16 => ⟨S4x1, .i32⟩
  | 17 => ⟨S4x1, .i1⟩
  | 18 => ⟨S_, .i32⟩
  | 19 => ⟨S4x1, .i32⟩
  | 20 => ⟨S4x1, .i32⟩
  | 21 => ⟨S4x1, .i32⟩
  | 22 => ⟨S_, .i32⟩
  | 23 => ⟨S4x2048, .i32⟩
  | 24 => ⟨S4x2048, .i1⟩
  | 25 => ⟨S_, .i32⟩
  | 26 => ⟨S4x2048, .i32⟩
  | 27 => ⟨S4x2048, .i32⟩
  | 28 => ⟨S4x2048, .i32⟩
  | 29 => ⟨S4x2048, .i32⟩
  | 30 => ⟨S4x2048x1, .i32⟩
  | 31 => ⟨S4x2048x1, .i32⟩
  | 32 => ⟨S4x2048x2, .i32⟩
  | 33 => ⟨S4x2048x256, .f32⟩
  | 34 => ⟨S_, .f32⟩
  | 35 => ⟨S4x2048x256, .f32⟩
  | 36 => ⟨S4x2048x256, .f32⟩
  | 37 => ⟨S4x2048x256, .f32⟩
  | 38 => ⟨S_, .f32⟩
  | 39 => ⟨S_, .f32⟩
  | 40 => ⟨S_, .f32⟩
  | 41 => ⟨S4x2048x256, .f32⟩
  | 42 => ⟨S4x2048x256, .f32⟩
  | 43 => ⟨S_, .f32⟩
  | 44 => ⟨S4x2048x256, .f32⟩
  | 45 => ⟨S4x2048x256, .f32⟩
  | 46 => ⟨S4x2048x256, .f32⟩
  | 47 => ⟨S4x2048x256, .f32⟩
  | 48 => ⟨S4x2048x256, .f32⟩
  | 49 => ⟨S4x2048x256, .f32⟩
  | 50 => ⟨S4x2048x256, .f32⟩
  | 51 => ⟨S4x2048x256, .i32⟩
  | 52 => ⟨S_, .f32⟩
  | 53 => ⟨S_, .i32⟩
  | 54 => ⟨S4x2048, .f32⟩
  | 55 => ⟨S4x2048, .i32⟩
  | 56 => ⟨S_, .i32⟩
  | 57 => ⟨S4x2048, .i32⟩
  | 58 => ⟨S4x2048, .i1⟩
  | 59 => ⟨S_, .i32⟩
  | 60 => ⟨S4x2048, .i32⟩
  | 61 => ⟨S4x2048, .i32⟩
  | 62 => ⟨S4x2048, .i32⟩
  | 63 => ⟨S4x2048x1, .i32⟩
  | 64 => ⟨S4x2048x1024, .f32⟩
  | 65 => ⟨S_, .i32⟩
  | 66 => ⟨S4, .i32⟩
  | 67 => ⟨S4, .i1⟩
  | 68 => ⟨S_, .i32⟩
  | 69 => ⟨S4, .i32⟩
  | 70 => ⟨S4, .i32⟩
  | 71 => ⟨S4, .i32⟩
  | 72 => ⟨S4x1, .i32⟩
  | 73 => ⟨S4x1024, .f32⟩
  | 74 => ⟨S4x1x1024, .f32⟩
  | 75 => ⟨S4x2048x1024, .f32⟩
  | 76 => ⟨S4x2048x1024, .f32⟩
  | 77 => ⟨S4x2048x1024, .f32⟩
  | 78 => ⟨S1x1x1024, .f32⟩
  | 79 => ⟨S4x2048x1024, .f32⟩
  | 80 => ⟨S4x2048x1024, .f32⟩
  | 81 => ⟨S_, .f32⟩
  | 82 => ⟨S4x2048x1024, .f32⟩
  | 83 => ⟨S4x2048x1024, .f32⟩
  | 84 => ⟨S4x2048x256, .f32⟩
  | 85 => ⟨S1x1x256, .f32⟩
  | 86 => ⟨S4x2048x256, .f32⟩
  | 87 => ⟨S4x2048x256, .f32⟩
  | 88 => ⟨S_, .f32⟩
  | 89 => ⟨S4x2048, .f32⟩
  | 90 => ⟨S_, .f32⟩
  | 91 => ⟨S4x2048, .f32⟩
  | 92 => ⟨S4x2048, .f32⟩
  | 93 => ⟨S4x2048x1, .f32⟩
  | 94 => ⟨S4x2048x256, .f32⟩
  | 95 => ⟨S4x2048x256, .f32⟩
  | 96 => ⟨S4x2048x256, .f32⟩
  | 97 => ⟨S_, .f32⟩
  | 98 => ⟨S4x2048, .f32⟩
  | 99 => ⟨S4x2048x1, .f32⟩
  | 100 => ⟨S4x2048x1, .f32⟩
  | 101 => ⟨S4x2048x256, .f32⟩
  | 102 => ⟨S4x2048x256, .f32⟩
  | 103 => ⟨S4x2048x1, .i32⟩
  | 104 => ⟨S_, .i32⟩
  | 105 => ⟨S4x2048x1, .i32⟩
  | 106 => ⟨S4x2048x1, .i1⟩
  | 107 => ⟨S_, .i32⟩
  | 108 => ⟨S4x2048x1, .i32⟩
  | 109 => ⟨S4x2048x1, .i32⟩
  | 110 => ⟨S4x2048x1, .i32⟩
  | 111 => ⟨S4x2048x1x1, .i32⟩
  | 112 => ⟨S1, .i32⟩
  | 113 => ⟨S_, .i32⟩
  | 114 => ⟨S4x2048x1x1, .i32⟩
  | 115 => ⟨S4x2048x1x1, .i1⟩
  | 116 => ⟨S1x1x1x1, .i32⟩
  | 117 => ⟨S4x2048x1x1, .i32⟩
  | 118 => ⟨S4x2048x1x1, .i1⟩
  | 119 => ⟨S4x2048x1x1, .i1⟩
  | 120 => ⟨S_, .i1⟩
  | 121 => ⟨S4x2048x1, .i1⟩
  | 122 => ⟨S4x2048x1, .f32⟩
  | 123 => ⟨S_, .f32⟩
  | 124 => ⟨S4x2048x1, .f32⟩
  | 125 => ⟨S4x2048x1, .f32⟩
  | 126 => ⟨S_, .f32⟩
  | 127 => ⟨S_, .f32⟩
  | _ => ⟨S4x2048, .i32⟩

abbrev hbmTy0_1 (i : Nat) : BufTy := match i % 128 with
  | 0 => ⟨S_, .f32⟩
  | 1 => ⟨S_, .f32⟩
  | 2 => ⟨S_, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_v0 : Ref sig .tc := ⟨.hbm, 51, rfl⟩
abbrev main_call1_cst : Ref sig .tc := ⟨.hbm, 52, rfl⟩
abbrev main_call1_c : Ref sig .tc := ⟨.hbm, 53, rfl⟩
abbrev main_call1_v1_0 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call2_cst : Ref sig .tc := ⟨.hbm, 81, rfl⟩
abbrev main_call2_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call3_cst : Ref sig .tc := ⟨.hbm, 88, rfl⟩
abbrev main_call3_v0 : Ref sig .tc := ⟨.hbm, 89, rfl⟩
abbrev main_call3_cst_0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_cst_1 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_v54 : Ref sig .tc := ⟨.hbm, 102, rfl⟩
abbrev main_v55 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_cst : Ref sig .tc := ⟨.hbm, 123, rfl⟩
abbrev main_call4_v14 : Ref sig .tc := ⟨.hbm, 124, rfl⟩
abbrev main_v56 : Ref sig .tc := ⟨.hbm, 125, rfl⟩
abbrev main_cst_10 : Ref sig .tc := ⟨.hbm, 126, rfl⟩
abbrev main_v57 : Ref sig .tc := ⟨.hbm, 127, rfl⟩
abbrev main_cst_11 : Ref sig .tc := ⟨.hbm, 128, rfl⟩
abbrev main_v58 : Ref sig .tc := ⟨.hbm, 129, rfl⟩
abbrev main_v59 : Ref sig .tc := ⟨.hbm, 130, rfl⟩

abbrev nD : Nat := 1
abbrev τ : Topo := Topo.v7x

variable {F : FTy → Type} [FloatOps F]
-- ==== Proof.KernelIdealFrame.lean ====
/- The kernel's frame at the extended reals: what its outputs and the carried one-hot scratch hold after each grid point,
   the pipeline's proof data, the run and the frame. The text is the generated frame module's, with a point's contents
   named by its case (`caseA`, `caseB`) before the recursion over the points is stated. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 16 tile its block (2 stores of `S1x1`, checked by the kernel's evaluation: Lib/Ring.lean `Piece.tiledL`, linear in the pieces, through a loop's `@[irreducible]` trip theorem too), so they cover it. -/
theorem cover0_A_16 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (y : S1x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).1 S1x1.size (by sl_kernel_rfl) y

/-- What case A leaves in output 16's staging buffer: its pieces read back over junk. -/
def out0_A_16 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) : Vec F S1x1 .f32 :=
  VO0_16.read (Elt F) (VO0_16.writes (Elt F) VO0_16.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).1)

/-- Case A's pieces for output 17 tile its block (2 stores of `S1x1`, checked by the kernel's evaluation: Lib/Ring.lean `Piece.tiledL`, linear in the pieces, through a loop's `@[irreducible]` trip theorem too), so they cover it. -/
theorem cover0_A_17 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (y : S1x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).2.1 S1x1.size (by sl_kernel_rfl) y

/-- What case A leaves in output 17's staging buffer: its pieces read back over junk. -/
def out0_A_17 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) : Vec F S1x1 .f32 :=
  VO0_17.read (Elt F) (VO0_17.writes (Elt F) VO0_17.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).2.1)

/-- Case A's pieces for scratch `arg21`, which the kernel carries between points, cover it: 2 pieces of `S512x256` tiling it (Lib/Ring.lean `Piece.tiledL`). -/
theorem scover0_A_0 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (y : S512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).2.2.1 S512x256.size (by sl_kernel_rfl) y

/-- What case A leaves in scratch `arg21`: its pieces read back over junk. -/
def sout0_A_0 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) : Vec F S512x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0).2.2.1)

/-- Case B's pieces for output 16 tile its block (1 store of `S1x1`, checked by the kernel's evaluation: Lib/Ring.lean `Piece.tiledL`, linear in the pieces, through a loop's `@[irreducible]` trip theorem too), so they cover it. -/
theorem cover0_B_16 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : ¬cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (xo16 : Vec F S1x1 .f32) (xo17 : Vec F S1x1 .f32) (xs0 : Vec F S512x256 .f32) (y : S1x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).1 S1x1.size (by sl_kernel_rfl) y

/-- What case B leaves in output 16's staging buffer: its pieces read back over junk. -/
def out0_B_16 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : ¬cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (xo16 : Vec F S1x1 .f32) (xo17 : Vec F S1x1 .f32) (xs0 : Vec F S512x256 .f32) : Vec F S1x1 .f32 :=
  VO0_16.read (Elt F) (VO0_16.writes (Elt F) VO0_16.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).1)

/-- Case B's pieces for output 17 tile its block (1 store of `S1x1`, checked by the kernel's evaluation: Lib/Ring.lean `Piece.tiledL`, linear in the pieces, through a loop's `@[irreducible]` trip theorem too), so they cover it. -/
theorem cover0_B_17 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : ¬cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (xo16 : Vec F S1x1 .f32) (xo17 : Vec F S1x1 .f32) (xs0 : Vec F S512x256 .f32) (y : S1x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).2.1 S1x1.size (by sl_kernel_rfl) y

/-- What case B leaves in output 17's staging buffer: its pieces read back over junk. -/
def out0_B_17 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : ¬cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (xo16 : Vec F S1x1 .f32) (xo17 : Vec F S1x1 .f32) (xs0 : Vec F S512x256 .f32) : Vec F S1x1 .f32 :=
  VO0_17.read (Elt F) (VO0_17.writes (Elt F) VO0_17.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).2.1)

/-- Case B's pieces for scratch `arg21`, which the kernel carries between points, cover it: 1 piece of `S512x256` tiling it (Lib/Ring.lean `Piece.tiledL`). -/
theorem scover0_B_0 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : ¬cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (xo16 : Vec F S1x1 .f32) (xo17 : Vec F S1x1 .f32) (xs0 : Vec F S512x256 .f32) (y : S512x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).2.2.1 S512x256.size (by sl_kernel_rfl) y

/-- What case B leaves in scratch `arg21`: its pieces read back over junk. -/
def sout0_B_0 (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole) (hc0 : ¬cond0_0 i)
    (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0) (xo16 : Vec F S1x1 .f32) (xo17 : Vec F S1x1 .f32) (xs0 : Vec F S512x256 .f32) : Vec F S512x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0).2.2.1)

/-! ## What the outputs hold after each point -/

/-- What a point of case A (the first) leaves in the two outputs and the scratch. -/
def caseA (hO : Ok m) (c : Dev nD) (t : Fin (cfgM m hO).N) (h0 : t.val % 16 = 0) : Vec F S1x1 .f32 × Vec F S1x1 .f32 × Vec F S512x256 .f32 :=
  (out0_A_16 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0), out0_A_17 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0))

/-- What a point of case B (a later one) leaves there, over what the point before left. -/
def caseB (hO : Ok m) (c : Dev nD) (t : Fin (cfgM m hO).N) (h0 : ¬t.val % 16 = 0) (p : Vec F S1x1 .f32 × Vec F S1x1 .f32 × Vec F S512x256 .f32) : Vec F S1x1 .f32 × Vec F S1x1 .f32 × Vec F S512x256 .f32 :=
  (out0_B_16 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0) p.1 p.2.1 p.2.2, out0_B_17 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0) p.1 p.2.1 p.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0) p.1 p.2.1 p.2.2)

/-- What the outputs' staging buffers and the scratch hold after the body at position `n`: the case's contents, a later
    point's over what the point before left. -/
def outsAt0 (hO : Ok m) (c : Dev nD) : (n : ℕ) → n < (cfgM m hO).N → Vec F S1x1 .f32 × Vec F S1x1 .f32 × Vec F S512x256 .f32
  | 0, hn => caseA m hO c ⟨0, hn⟩ (Nat.zero_mod _)
  | n + 1, hn =>
    if h0 : (n + 1) % 16 = 0 then caseA m hO c ⟨n + 1, hn⟩ h0
    else caseB m hO c ⟨n + 1, hn⟩ h0 (outsAt0 hO c n (Nat.lt_of_succ_lt hn))

theorem outsAt0_caseA (hO : Ok m) (c : Dev nD) (t : Fin (cfgM m hO).N) (h0 : t.val % 16 = 0) :
    outsAt0 m hO c t.val t.isLt = caseA m hO c t h0 := by
  obtain ⟨n, hn⟩ := t
  cases n with
  | zero => rw [outsAt0]
  | succ n => rw [outsAt0]; exact dif_pos h0

theorem outsAt0_caseB (hO : Ok m) (c : Dev nD) (t : Fin (cfgM m hO).N) (h0 : ¬t.val % 16 = 0) :
    outsAt0 m hO c t.val t.isLt = caseB m hO c t h0 (outsAt0 m hO c (t.val - 1) (Nat.lt_of_le_of_lt (Nat.sub_le _ _) t.isLt)) := by
  obtain ⟨n, hn⟩ := t
  cases n with
  | zero => exact absurd (Nat.zero_mod _) h0
  | succ n => rw [outsAt0]; exact dif_neg h0

/-- A point of case A, written out. -/
theorem outsAt0_A (hO : Ok m) (c : Dev nD) (t : Fin (cfgM m hO).N) (h0 : t.val % 16 = 0) :
    outsAt0 m hO c t.val t.isLt = (out0_A_16 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0), out0_A_17 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0)) :=
  (outsAt0_caseA m hO c t h0).trans (by rw [caseA])

/-- A point of case B, written out. -/
theorem outsAt0_B (hO : Ok m) (c : Dev nD) (t : Fin (cfgM m hO).N) (h0 : ¬t.val % 16 = 0) :
    outsAt0 m hO c t.val t.isLt = (out0_B_16 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2, out0_B_17 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2) :=
  (outsAt0_caseB m hO c t h0).trans (by rw [caseB])

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => (outsAt0 m hO c t.val t.isLt).1
    | ⟨17, _⟩ => (outsAt0 m hO c t.val t.isLt).2.1
    | ⟨_ + 18, h⟩ => absurd h (Nat.not_lt.2 (Nat.le_add_left _ _))
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = (outsAt0 m hO c t.val t.isLt).1 := by dsimp only [dats]; try rfl
theorem after0_17 (hO : Ok m) (c : Dev nD) (t : Fin (cfgM m hO).N) : (dats m hO 0 c).after 17 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
/-- At a point of case B output 16's current staging buffer holds what the body left at the point before: the point is
    not the first, the buffer was not written back between (`flush0_16`), the window is live and uncut (Lib/Pipeline/Frame.lean
    `Dat.before_out_kept`). -/
theorem before0_16_B (hO : Ok m) (c : Dev nD) (t : Fin (cfgM m hO).N) (h0 : ¬t.val % 16 = 0) (d) :
    (dats m hO 0 c).before 16 t d = (outsAt0 m hO c (t.val - 1) (Nat.lt_of_le_of_lt (Nat.sub_le _ _) t.isLt)).1 := by
  have hN : t.val < 16 := lt_of_lt_of_eq t.isLt (show (cfgM m hO).N = 16 from N_0)
  rw [Dat.before_out_kept _ 16 rfl t (by omega) (Bool.eq_false_iff.mpr fun h => by have := (flush0_16 (adm m hO) _).mp h; dsimp only at this; omega)
    (fun _ => rfl) (fun _ _ => rfl)]
  dsimp only [dats]
  try rfl
/-- At a point of case B output 17's current staging buffer holds what the body left at the point before: the point is
    not the first, the buffer was not written back between (`flush0_17`), the window is live and uncut (Lib/Pipeline/Frame.lean
    `Dat.before_out_kept`). -/
theorem before0_17_B (hO : Ok m) (c : Dev nD) (t : Fin (cfgM m hO).N) (h0 : ¬t.val % 16 = 0) (d) :
    (dats m hO 0 c).before 17 t d = (outsAt0 m hO c (t.val - 1) (Nat.lt_of_le_of_lt (Nat.sub_le _ _) t.isLt)).2.1 := by
  have hN : t.val < 16 := lt_of_lt_of_eq t.isLt (show (cfgM m hO).N = 16 from N_0)
  rw [Dat.before_out_kept _ 17 rfl t (by omega) (Bool.eq_false_iff.mpr fun h => by have := (flush0_17 (adm m hO) _).mp h; dsimp only at this; omega)
    (fun _ => rfl) (fun _ _ => rfl)]
  dsimp only [dats]
  try rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15]
  rw [show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17]
  rw [show (dats m hO 0 c).Φ t.succ = PhiS m hO c (t.val + 1) t.isLt from rfl, PhiS_succ, PhiT0_eq]
  have hN : t.val < 16 := lt_of_lt_of_eq t.isLt (show (cfgM m hO).N = 16 from N_0)
  by_cases h0 : t.val % 16 = 0
  · by_cases hz : t.val = 0
    · rw [PhiS_castSucc m hO c t, PhiS_zero m hO c _ _ hz, PhiT0_eq, PhiA0_eq]
      rw [outsAt0_A m hO c t h0]
      unfold out0_A_16 out0_A_17 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [HS0]; · iexact HS0
      isplitl [HT0]; · iexact HT0
      iintro ⟨H0, H1, H2, H3, H4, H5, H6, H7, H8, H9, H10, H11, H12, H13, H14, H15, ⟨%e16, H16⟩, ⟨%e17, H17⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 16 := lt_of_lt_of_eq t.isLt (show (cfgM m hO).N = 16 from N_0); omega
  · by_cases hz : t.val = 0
    · exfalso; have hN : t.val < 16 := lt_of_lt_of_eq t.isLt (show (cfgM m hO).N = 16 from N_0); omega
    · rw [PhiS_castSucc m hO c t, PhiS_pos m hO c _ _ hz, PhiT0_eq]
      rw [outsAt0_B m hO c t h0]
      simp only [before0_16_B m hO c t h0, before0_17_B m hO c t h0]
      unfold out0_B_16 out0_B_17 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (tbl m 0) _ _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HT0]; · iexact HT0
      iintro ⟨H0, H1, H2, H3, H4, H5, H6, H7, H8, H9, H10, H11, H12, H13, H14, H15, ⟨%e16, H16⟩, ⟨%e17, H17⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 16 := N_0; omega)

/-! ## The run and the frame -/

-- `θ_run_frameP_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO) ((θ_run defs _ _).mono (fun _ h => h.2) (run_main_quiescent m ρ hO))

end Cert.KernelIdeal.Gen

end
-- ==== Proof.StepRange.lean ====
/- The precondition on the step numbers, decoded word by word: each lies between 1 and 100. -/
module

public import proofs.«01_k».proof.Proof.Gen.Pre_steps_in_range
public import Idealize.ShloMosaic.Lib.ValueIdx

@[expose] public section

namespace Cert.StepRange

open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A step number: a word in [1, 100]. -/
def IsStep (w : BitVec 32) : Prop := 1 ≤ w.toNat ∧ w.toNat ≤ 100

/-- The word-level condition the predicate tests is the range. -/
theorem isStep_of_bit (w : BitVec 32) (e : IntOp.andi (IntOp.cmpi .sge w 1#32) (IntOp.cmpi .sle w 100#32) = 1#1) : IsStep w := by
  simp only [IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  unfold IsStep
  have := w.isLt
  constructor <;> split at hge <;> split at hlt <;> omega

theorem sub_one (w : BitVec 32) (h : IsStep w) : (Scalar.subi w 1#32).toNat = w.toNat - 1 := by
  obtain ⟨h1, h2⟩ := h
  show (w - 1#32).toNat = _
  rw [BitVec.toNat_sub]; simp; omega

theorem max_two_sub_two (w : BitVec 32) (h : IsStep w) : (Scalar.subi (Scalar.maxsi w 2#32) 2#32).toNat = max w.toNat 2 - 2 := by
  obtain ⟨h1, h2⟩ := h
  obtain ⟨n, hn, rfl⟩ : ∃ n : Nat, n < 101 ∧ w = BitVec.ofNat 32 n := ⟨w.toNat, by omega, by simp⟩
  have : ∀ n : Fin 101, (Scalar.subi (Scalar.maxsi (BitVec.ofNat 32 n.val) 2#32) 2#32).toNat = max (BitVec.ofNat 32 n.val).toNat 2 - 2 := by decide +kernel
  exact this ⟨n, hn⟩

end Cert.StepRange
-- ==== Proof.KernelIdealTables.lean ====
/- The prefetched table of `KernelIdeal`: where its words are read, what block each table-driven window takes,
   and that step numbers between 1 and 100 keep every such block inside its array. -/
module

public import proofs.«01_k».proof.Proof.Gen.KernelIdeal.Frame.Runs
public import proofs.«01_k».proof.Proof.Gen.Pre_steps_in_range
public import proofs.«01_k».proof.Proof.StepRange
public import Idealize.ShloMosaic.Lib.ValueIdx

@[expose] public section

noncomputable section

namespace Cert.KernelIdealTables

open Cert.KernelIdeal Cert.KernelIdeal.Gen
open Idealize.ShloMosaic Idealize.ShloMosaic.TcCoe

variable {F : FTy → Type} [FloatOps F]

/-- The batch entry whose tile is sampled at a grid point: that of the next point, clipped at the last. -/
def nextBatch (i : grid0.Coords) : Fin 4 := ⟨min (4 * (i 0).val + (i 1).val + 1) 15 / 4, by omega⟩

/-- The tile, inside its batch entry, sampled at a grid point. -/
def nextTile (i : grid0.Coords) : Fin 4 := ⟨min (4 * (i 0).val + (i 1).val + 1) 15 % 4, by omega⟩

/-- The offset the next-tile maps read the table at. -/
theorem off1_eq : ∀ i : grid0.Coords, k0_off1 i = ![(nextBatch i).val] := by decide +kernel

/-- The offset the current-tile maps read the table at. -/
theorem off2_eq : ∀ i : grid0.Coords, k0_off2 i = ![(i 0).val] := by decide +kernel

/-- The word of a table at a batch entry. -/
abbrev word (pf : pre0.Contents (Elt F)) (b : Fin 4) : BitVec 32 := pf 0 (ValueIdx.ix1 b)

/-- A one-word read of the table at a known offset is the table's word there. -/
theorem at_word (pf : pre0.Contents (Elt F)) (k : Fin 1 → Nat) (h : ∀ a, k a + S1.size a ≤ S4.size a) (h1 : S1.numel = 1) (b : Fin 4) (hb : k = ![b.val]) :
    (pf.at 0 (Rect.unit (s := S4) k S1.size h) h1 : BitVec 32) = word pf b := by
  subst hb
  refine congrArg (pf 0) (funext fun (a : Fin 1) => Fin.ext ?_)
  match a with
  | ⟨0, _⟩ => exact (Nat.add_zero b.val)
  | ⟨n + 1, hn⟩ => exact absurd hn (by omega)

/-- The side conditions of the maps' reads. -/
abbrev Inb (k : grid0.Coords → Fin 1 → Nat) : Prop := ∀ i a, k i a + S1.size a ≤ S4.size a

theorem map4 (h : Inb k0_off1) (h1 : S1.numel = 1) (pf : pre0.Contents (Elt F)) (i : grid0.Coords) :
    cc0_transform_4 h h1 pf i = ![(Scalar.subi (word pf (nextBatch i)) 1#32).toNat, 0, 0] := by
  show ![(Scalar.subi (pf.at 0 (Rect.unit (s := S4) (k0_off1 i) S1.size (h i)) h1 : BitVec 32) 1#32).toNat, 0, 0] = _
  rw [at_word pf _ (h i) h1 (nextBatch i) (off1_eq i)]

theorem map5 (h : Inb k0_off1) (h1 : S1.numel = 1) (pf : pre0.Contents (Elt F)) (i : grid0.Coords) :
    cc0_transform_5 h h1 pf i = ![(Scalar.subi (word pf (nextBatch i)) 1#32).toNat, 31, 0] := by
  show ![(Scalar.subi (pf.at 0 (Rect.unit (s := S4) (k0_off1 i) S1.size (h i)) h1 : BitVec 32) 1#32).toNat, 31, 0] = _
  rw [at_word pf _ (h i) h1 (nextBatch i) (off1_eq i)]

theorem map6 (h : Inb k0_off2) (h1 : S1.numel = 1) (pf : pre0.Contents (Elt F)) (i : grid0.Coords) :
    cc0_transform_6 h h1 pf i = ![(Scalar.subi (word pf (i 0)) 1#32).toNat, 0, 0] := by
  show ![(Scalar.subi (pf.at 0 (Rect.unit (s := S4) (k0_off2 i) S1.size (h i)) h1 : BitVec 32) 1#32).toNat, 0, 0] = _
  rw [at_word pf _ (h i) h1 (i 0) (off2_eq i)]

theorem map7 (h : Inb k0_off2) (h1 : S1.numel = 1) (pf : pre0.Contents (Elt F)) (i : grid0.Coords) :
    cc0_transform_7 h h1 pf i = ![(Scalar.subi (word pf (i 0)) 1#32).toNat, 31, 0] := by
  show ![(Scalar.subi (pf.at 0 (Rect.unit (s := S4) (k0_off2 i) S1.size (h i)) h1 : BitVec 32) 1#32).toNat, 31, 0] = _
  rw [at_word pf _ (h i) h1 (i 0) (off2_eq i)]

theorem map8 (h : Inb k0_off2) (h1 : S1.numel = 1) (pf : pre0.Contents (Elt F)) (i : grid0.Coords) :
    cc0_transform_8 h h1 pf i = ![(Scalar.subi (Scalar.maxsi (word pf (i 0)) 2#32) 2#32).toNat, 0, 0] := by
  show ![(Scalar.subi (Scalar.maxsi (pf.at 0 (Rect.unit (s := S4) (k0_off2 i) S1.size (h i)) h1 : BitVec 32) 2#32) 2#32).toNat, 0, 0] = _
  rw [at_word pf _ (h i) h1 (i 0) (off2_eq i)]

theorem map9 (h : Inb k0_off2) (h1 : S1.numel = 1) (pf : pre0.Contents (Elt F)) (i : grid0.Coords) :
    cc0_transform_9 h h1 pf i = ![(Scalar.subi (Scalar.maxsi (word pf (i 0)) 2#32) 2#32).toNat, 31, 0] := by
  show ![(Scalar.subi (Scalar.maxsi (pf.at 0 (Rect.unit (s := S4) (k0_off2 i) S1.size (h i)) h1 : BitVec 32) 2#32) 2#32).toNat, 31, 0] = _
  rw [at_word pf _ (h i) h1 (i 0) (off2_eq i)]

theorem map11 (h : Inb k0_off2) (h1 : S1.numel = 1) (pf : pre0.Contents (Elt F)) (i : grid0.Coords) :
    cc0_transform_11 h h1 pf i = ![(word pf (i 0)).toNat, 0, 0] := by
  show ![(pf.at 0 (Rect.unit (s := S4) (k0_off2 i) S1.size (h i)) h1 : BitVec 32).toNat, 0, 0] = _
  rw [at_word pf _ (h i) h1 (i 0) (off2_eq i)]

/-- A three-axis block of one row at `k`, and `y` blocks in, lies inside its array. -/
theorem block_inside {d0 d1 b1 d2 : Nat} (k y : Nat) (hk : k < d0) (hy : (y + 1) * b1 ≤ d1) :
    ∀ a : Fin 3, ((![k, y, 0] : Fin 3 → Nat) a + 1) * (![1, b1, d2] : Fin 3 → Nat) a ≤ (![d0, d1, d2] : Fin 3 → Nat) a := by
  intro a
  match a with
  | ⟨0, _⟩ => show (k + 1) * 1 ≤ d0; omega
  | ⟨1, _⟩ => exact hy
  | ⟨2, _⟩ => show (0 + 1) * d2 ≤ d2; omega

/-- Step numbers between 1 and 100 keep every table-driven block inside its array. -/
theorem ok_of_steps (pf : pre0.Contents (Elt F)) (hs : ∀ b, StepRange.IsStep (word pf b)) : ok0 (F := F) pf := by
  have hsub : ∀ b, (Scalar.subi (word pf b) 1#32).toNat < 100 := fun b => by
    rw [StepRange.sub_one _ (hs b)]; have := hs b; unfold StepRange.IsStep at this; omega
  have hmax : ∀ b, (Scalar.subi (Scalar.maxsi (word pf b) 2#32) 2#32).toNat < 100 := fun b => by
    rw [StepRange.max_two_sub_two _ (hs b)]; have := hs b; unfold StepRange.IsStep at this; omega
  have hid : ∀ b, (word pf b).toNat < 101 := fun b => by
    have := hs b; unfold StepRange.IsStep at this; omega
  unfold ok0
  refine ⟨fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ⟨?_, .inl rfl⟩⟩
  · rw [map4]; exact block_inside _ _ (hsub _) (by decide)
  · rw [map5]; exact block_inside _ _ (hsub _) (by decide)
  · rw [map6]; exact block_inside _ _ (hsub _) (by decide)
  · rw [map7]; exact block_inside _ _ (hsub _) (by decide)
  · rw [map8]; exact block_inside _ _ (hmax _) (by decide)
  · rw [map9]; exact block_inside _ _ (hmax _) (by decide)
  · rw [map11]; exact block_inside _ _ (hid _) (by decide)

/-- The launch memory's table, at device 0. -/
theorem word_tbl (m : (ℓ : Loc nD τ sig) → Buf (Elt F) ℓ) (b : Fin 4) :
    word (tbl m) b = m (((0 : Dev nD) : Thread nD τ).loc main_arg1) (ValueIdx.ix1 b) := by
  show (V m (0 : Dev nD) (pre0.ref 0)) (ValueIdx.ix1 b) = _
  exact congrFun (V_main_arg1 m 0) _

end Cert.KernelIdealTables
end
-- ==== Proof.RefRun.lean ====
/- The reference's host operations as lists, cut where one quantity of the mathematics is complete, and its run:
   every buffer ends at what the operations, in order, leave there. -/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side: the indices of a two-axis gather. -/
def sideBySide : (⟨S4x2048x1, .i32⟩ : BufTy).Contents (Elt F) → (⟨S4x2048x1, .i32⟩ : BufTy).Contents (Elt F) → (⟨S4x2048x2, .i32⟩ : BufTy).Contents (Elt F) :=
  (fun a b => concatenate S4x2048x2 2 [⟨S4x2048x1, a⟩, ⟨S4x2048x1, b⟩] concatenates_S4x2048x1_S4x2048x1_S4x2048x2_d2)

/-- Operations up to the one that writes `main_v17`. -/
abbrev seg0 : List (HloOp τ sig (Elt F)) :=
  [ nullary main_c (constantI S_ 32 1#32),
    unary main_c main_v0 (broadcastInDim S4 ![] bcast_S_S4 : (⟨S_, .i32⟩ : BufTy).Contents (Elt F) → (⟨S4, .i32⟩ : BufTy).Contents (Elt F)),
    binary main_arg1 main_v0 main_v1 (subi : (⟨S4, .i32⟩ : BufTy).Contents (Elt F) → (⟨S4, .i32⟩ : BufTy).Contents (Elt F) → (⟨S4, .i32⟩ : BufTy).Contents (Elt F)),
    unary main_v1 main_v2 (broadcastInDim S4x1 ![0] bcast_S4_S4x1_0 : (⟨S4, .i32⟩ : BufTy).Contents (Elt F) → (⟨S4x1, .i32⟩ : BufTy).Contents (Elt F)),
    nullary main_c_0 (constantI S_ 32 0#32),
    unary main_c_0 main_v3 (broadcastInDim S4x1 ![] bcast_S_S4x1 : (⟨S_, .i32⟩ : BufTy).Contents (Elt F) → (⟨S4x1, .i32⟩ : BufTy).Contents (Elt F)),
    binary main_v2 main_v3 main_v4 (cmpi .slt : (⟨S4x1, .i32⟩ : BufTy).Contents (Elt F) → (⟨S4x1, .i32⟩ : BufTy).Contents (Elt F) → (⟨S4x1, .i1⟩ : BufTy).Contents (Elt F)),
    nullary main_c_1 (constantI S_ 32 100#32),
    unary main_c_1 main_v5 (broadcastInDim S4x1 ![] bcast_S_S4x1 : (⟨S_, .i32⟩ : BufTy).Contents (Elt F) → (⟨S4x1, .i32⟩ : BufTy).Contents (Elt F)),
    binary main_v2 main_v5 main_v6 (addi : (⟨S4x1, .i32⟩ : BufTy).Contents (Elt F) → (⟨S4x1, .i32⟩ : BufTy).Contents (Elt F) → (⟨S4x1, .i32⟩ : BufTy).Contents (Elt F)),
    ternary main_v4 main_v6 main_v2 main_v7 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_2 (constantI S_ 32 0#32),
    unary main_c_2 main_v8 (broadcastInDim S4x2048 ![] bcast_S_S4x2048 : (⟨S_, .i32⟩ : BufTy).Contents (Elt F) → (⟨S4x2048, .i32⟩ : BufTy).Contents (Elt F)),
    binary main_arg0 main_v8 main_v9 (cmpi .slt : (⟨S4x2048, .i32⟩ : BufTy).Contents (Elt F) → (⟨S4x2048, .i32⟩ : BufTy).Contents (Elt F) → (⟨S4x2048, .i1⟩ : BufTy).Contents (Elt F)),
    nullary main_c_3 (constantI S_ 32 256#32),
    unary main_c_3 main_v10 (broadcastInDim S4x2048 ![] bcast_S_S4x2048 : (⟨S_, .i32⟩ : BufTy).Contents (Elt F) → (⟨S4x2048, .i32⟩ : BufTy).Contents (Elt F)),
    binary main_arg0 main_v10 main_v11 (addi : (⟨S4x2048, .i32⟩ : BufTy).Contents (Elt F) → (⟨S4x2048, .i32⟩ : BufTy).Contents (Elt F) → (⟨S4x2048, .i32⟩ : BufTy).Contents (Elt F)),
    ternary main_v9 main_v11 main_arg0 main_v12 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v7 main_v13 (broadcastInDim S4x2048 ![0, 1] bcast_S4x1_S4x2048_0_1 : (⟨S4x1, .i32⟩ : BufTy).Contents (Elt F) → (⟨S4x2048, .i32⟩ : BufTy).Contents (Elt F)),
    unary main_v13 main_v14 (broadcastInDim S4x2048x1 ![0, 1] bcast_S4x2048_S4x2048x1_0_1 : (⟨S4x2048, .i32⟩ : BufTy).Contents (Elt F) → (⟨S4x2048x1, .i32⟩ : BufTy).Contents (Elt F)),
    unary main_v12 main_v15 (broadcastInDim S4x2048x1 ![0, 1] bcast_S4x2048_S4x2048x1_0_1 : (⟨S4x2048, .i32⟩ : BufTy).Contents (Elt F) → (⟨S4x2048x1, .i32⟩ : BufTy).Contents (Elt F)),
    binary main_v14 main_v15 main_v16 (sideBySide (F := F)),
    binary main_arg4 main_v16 main_v17 ((fun x i => Host.gather gather_S100x256x256_S4x2048x2_S4x2048x256_2_01_n_n_01_2_11256 x i) : (⟨S100x256x256, .f32⟩ : BufTy).Contents (Elt F) → (⟨S4x2048x2, .i32⟩ : BufTy).Contents (Elt F) → (⟨S4x2048x256, .f32⟩ : BufTy).Contents (Elt F)) ]

/-- Operations up to the one that writes `main_v26`. -/
abbrev seg1 : List (HloOp τ sig (Elt F)) :=
  [ nullary main_cst (constant S_ .f32 0x358637BD#32),
    unary main_cst main_v18 (broadcastInDim S4x2048x256 ![] bcast_S_S4x2048x256 : (⟨S_, .f32⟩ : BufTy).Contents (Elt F) → (⟨S4x2048x256, .f32⟩ : BufTy).Contents (Elt F)),
    binary main_v17 main_v18 main_v19 (addf : (⟨S4x2048x256, .f32⟩ : BufTy).Contents (Elt F) → (⟨S4x2048x256, .f32⟩ : BufTy).Contents (Elt F) → (⟨S4x2048x256, .f32⟩ : BufTy).Contents (Elt F)),
    unary main_v19 main_v20 (Host.log : (⟨S4x2048x256, .f32⟩ : BufTy).Contents (Elt F) → (⟨S4x2048x256, .f32⟩ : BufTy).Contents (Elt F)),
    nullary main_cst_4 (constant S_ .f32 0x358637BD#32),
    nullary main_cst_5 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S4x2048x256, .f32⟩) main_call0_v1) (broadcastInDim S4x2048x256 ![] bcast_S_S4x2048x256),
    TRef.binary (TRef.of (T := ⟨S4x2048x256, .f32⟩) main_call0_v1) (TRef.of (T := ⟨S4x2048x256, .f32⟩) main_arg2) (TRef.of (T := ⟨S4x2048x256, .f32⟩) main_call0_v2) maximumf,
    TRef.unary (TRef.of (T := ⟨S_, .f32⟩) main_cst_5) (TRef.of (T := ⟨S_, .f32⟩) main_call0_v3) id,
    TRef.unary (TRef.of (T := ⟨S_, .f32⟩) main_call0_v3) (TRef.of (T := ⟨S4x2048x256, .f32⟩) main_call0_v4) (broadcastInDim S4x2048x256 ![] bcast_S_S4x2048x256),
    TRef.binary (TRef.of (T := ⟨S4x2048x256, .f32⟩) main_call0_v4) (TRef.of (T := ⟨S4x2048x256, .f32⟩) main_call0_v2) (TRef.of (T := ⟨S4x2048x256, .f32⟩) main_v21) minimumf,
    unary main_v21 main_v22 (Host.log : (⟨S4x2048x256, .f32⟩ : BufTy).Contents (Elt F) → (⟨S4x2048x256, .f32⟩ : BufTy).Contents (Elt F)),
    unary main_v22 main_v23 (Host.negf : (⟨S4x2048x256, .f32⟩ : BufTy).Contents (Elt F) → (⟨S4x2048x256, .f32⟩ : BufTy).Contents (Elt F)),
    unary main_v23 main_v24 (Host.log : (⟨S4x2048x256, .f32⟩ : BufTy).Contents (Elt F) → (⟨S4x2048x256, .f32⟩ : BufTy).Contents (Elt F)),
    unary main_v24 main_v25 (Host.negf : (⟨S4x2048x256, .f32⟩ : BufTy).Contents (Elt F) → (⟨S4x2048x256, .f32⟩ : BufTy).Contents (Elt F)),
    binary main_v20 main_v25 main_v26 (addf : (⟨S4x2048x256, .f32⟩ : BufTy).Contents (Elt F) → (⟨S4x2048x256, .f32⟩ : BufTy).Contents (Elt F) → (⟨S4x2048x256, .f32⟩ : BufTy).Contents (Elt F)) ]

/-- Operations up to the one that writes `main_v27`. -/
abbrev seg2 : List (HloOp τ sig (Elt F)) :=
  [ TRef.nullary (TRef.of (T := ⟨S4x2048x256, .i32⟩) main_call1_v0) (iotaInDim S4x2048x256 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x2048x256, .f32⟩) main_v26) (TRef.of (T := ⟨S4x2048x256, .i32⟩) main_call1_v0) (TRef.of (T := ⟨S_, .f32⟩) main_call1_cst) (TRef.of (T := ⟨S_, .i32⟩) main_call1_c) (TRef.of (T := ⟨S4x2048, .f32⟩) main_call1_v1_0) (fun x y u v j => (Host.argReduce reducer_argmax_f32_i32 x y u v reducesTo_S4x2048x256_S4x2048_d2 h_S_ j).1),
    TRef.quaternary (TRef.of (T := ⟨S4x2048x256, .f32⟩) main_v26) (TRef.of (T := ⟨S4x2048x256, .i32⟩) main_call1_v0) (TRef.of (T := ⟨S_, .f32⟩) main_call1_cst) (TRef.of (T := ⟨S_, .i32⟩) main_call1_c) (TRef.of (T := ⟨S4x2048, .i32⟩) main_v27) (fun x y u v j => (Host.argReduce reducer_argmax_f32_i32 x y u v reducesTo_S4x2048x256_S4x2048_d2 h_S_ j).2) ]

/-- Operations up to the one that writes `main_v47`. -/
abbrev seg3 : List (HloOp τ sig (Elt F)) :=
  [ nullary main_c_6 (constantI S_ 32 0#32),
    unary main_c_6 main_v28 (broadcastInDim S4x2048 ![] bcast_S_S4x2048 : (⟨S_, .i32⟩ : BufTy).Contents (Elt F) → (⟨S4x2048, .i32⟩ : BufTy).Contents (Elt F)),
    binary main_v27 main_v28 main_v29 (cmpi .slt : (⟨S4x2048, .i32⟩ : BufTy).Contents (Elt F) → (⟨S4x2048, .i32⟩ : BufTy).Contents (Elt F) → (⟨S4x2048, .i1⟩ : BufTy).Contents (Elt F)),
    nullary main_c_7 (constantI S_ 32 256#32),
    unary main_c_7 main_v30 (broadcastInDim S4x2048 ![] bcast_S_S4x2048 : (⟨S_, .i32⟩ : BufTy).Contents (Elt F) → (⟨S4x2048, .i32⟩ : BufTy).Contents (Elt F)),
    binary main_v27 main_v30 main_v31 (addi : (⟨S4x2048, .i32⟩ : BufTy).Contents (Elt F) → (⟨S4x2048, .i32⟩ : BufTy).Contents (Elt F) → (⟨S4x2048, .i32⟩ : BufTy).Contents (Elt F)),
    ternary main_v29 main_v31 main_v27 main_v32 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v32 main_v33 (broadcastInDim S4x2048x1 ![0, 1] bcast_S4x2048_S4x2048x1_0_1 : (⟨S4x2048, .i32⟩ : BufTy).Contents (Elt F) → (⟨S4x2048x1, .i32⟩ : BufTy).Contents (Elt F)),
    binary main_arg5 main_v33 main_v34 ((fun x i => Host.gather gather_S256x1024_S4x2048x1_S4x2048x1024_2_0_n_n_0_2_11024 x i) : (⟨S256x1024, .f32⟩ : BufTy).Contents (Elt F) → (⟨S4x2048x1, .i32⟩ : BufTy).Contents (Elt F) → (⟨S4x2048x1024, .f32⟩ : BufTy).Contents (Elt F)),
    nullary main_c_8 (constantI S_ 32 0#32),
    unary main_c_8 main_v35 (broadcastInDim S4 ![] bcast_S_S4 : (⟨S_, .i32⟩ : BufTy).Contents (Elt F) → (⟨S4, .i32⟩ : BufTy).Contents (Elt F)),
    binary main_arg1 main_v35 main_v36 (cmpi .slt : (⟨S4, .i32⟩ : BufTy).Contents (Elt F) → (⟨S4, .i32⟩ : BufTy).Contents (Elt F) → (⟨S4, .i1⟩ : BufTy).Contents (Elt F)),
    nullary main_c_9 (constantI S_ 32 101#32),
    unary main_c_9 main_v37 (broadcastInDim S4 ![] bcast_S_S4 : (⟨S_, .i32⟩ : BufTy).Contents (Elt F) → (⟨S4, .i32⟩ : BufTy).Contents (Elt F)),
    binary main_arg1 main_v37 main_v38 (addi : (⟨S4, .i32⟩ : BufTy).Contents (Elt F) → (⟨S4, .i32⟩ : BufTy).Contents (Elt F) → (⟨S4, .i32⟩ : BufTy).Contents (Elt F)),
    ternary main_v36 main_v38 main_arg1 main_v39 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v39 main_v40 (broadcastInDim S4x1 ![0] bcast_S4_S4x1_0 : (⟨S4, .i32⟩ : BufTy).Contents (Elt F) → (⟨S4x1, .i32⟩ : BufTy).Contents (Elt F)),
    binary main_arg6 main_v40 main_v41 ((fun x i => Host.gather gather_S101x1024_S4x1_S4x1024_1_0_n_n_0_1_11024 x i) : (⟨S101x1024, .f32⟩ : BufTy).Contents (Elt F) → (⟨S4x1, .i32⟩ : BufTy).Contents (Elt F) → (⟨S4x1024, .f32⟩ : BufTy).Contents (Elt F)),
    unary main_v41 main_v42 (broadcastInDim S4x1x1024 ![0, 2] bcast_S4x1024_S4x1x1024_0_2 : (⟨S4x1024, .f32⟩ : BufTy).Contents (Elt F) → (⟨S4x1x1024, .f32⟩ : BufTy).Contents (Elt F)),
    unary main_v42 main_v43 (broadcastInDim S4x2048x1024 ![0, 1, 2] bcast_S4x1x1024_S4x2048x1024_0_1_2 : (⟨S4x1x1024, .f32⟩ : BufTy).Contents (Elt F) → (⟨S4x2048x1024, .f32⟩ : BufTy).Contents (Elt F)),
    binary main_v34 main_v43 main_v44 (addf : (⟨S4x2048x1024, .f32⟩ : BufTy).Contents (Elt F) → (⟨S4x2048x1024, .f32⟩ : BufTy).Contents (Elt F) → (⟨S4x2048x1024, .f32⟩ : BufTy).Contents (Elt F)),
    binary main_v44 main_arg7 main_v45 ((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)),
    unary main_arg8 main_v46 (broadcastInDim S1x1x1024 ![2] bcast_S1024_S1x1x1024_2 : (⟨S1024, .f32⟩ : BufTy).Contents (Elt F) → (⟨S1x1x1024, .f32⟩ : BufTy).Contents (Elt F)),
    unary main_v46 main_v47 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)) ]

/-- Operations up to the one that writes `main_v53`. -/
abbrev seg4 : List (HloOp τ sig (Elt F)) :=
  [ binary main_v45 main_v47 main_v48 (addf : (⟨S4x2048x1024, .f32⟩ : BufTy).Contents (Elt F) → (⟨S4x2048x1024, .f32⟩ : BufTy).Contents (Elt F) → (⟨S4x2048x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4x2048x1024, .f32⟩) main_call2_v0) (broadcastInDim S4x2048x1024 ![] bcast_S_S4x2048x1024),
    TRef.binary (TRef.of (T := ⟨S4x2048x1024, .f32⟩) main_v48) (TRef.of (T := ⟨S4x2048x1024, .f32⟩) main_call2_v0) (TRef.of (T := ⟨S4x2048x1024, .f32⟩) main_v49) maximumf,
    binary main_v49 main_arg9 main_v50 ((fun l r => Host.dotGeneral dot_S4x2048x1024_S1024x256_S4x2048x256_2_0_01_1_n_n none l r) : (⟨S4x2048x1024, .f32⟩ : BufTy).Contents (Elt F) → (⟨S1024x256, .f32⟩ : BufTy).Contents (Elt F) → (⟨S4x2048x256, .f32⟩ : BufTy).Contents (Elt F)),
    unary main_arg10 main_v51 (broadcastInDim S1x1x256 ![2] bcast_S256_S1x1x256_2 : (⟨S256, .f32⟩ : BufTy).Contents (Elt F) → (⟨S1x1x256, .f32⟩ : BufTy).Contents (Elt F)),
    unary main_v51 main_v52 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v50 main_v52 main_v53 (addf : (⟨S4x2048x256, .f32⟩ : BufTy).Contents (Elt F) → (⟨S4x2048x256, .f32⟩ : BufTy).Contents (Elt F) → (⟨S4x2048x256, .f32⟩ : BufTy).Contents (Elt F)) ]

/-- Operations up to the one that writes `main_v59`. -/
abbrev seg5 : List (HloOp τ sig (Elt F)) :=
  [ TRef.nullary (TRef.of (T := ⟨S_, .f32⟩) main_call3_cst) (constant S_ .f32 0xFF800000#32),
    TRef.binary (TRef.of (T := ⟨S4x2048x256, .f32⟩) main_v53) (TRef.of (T := ⟨S_, .f32⟩) main_call3_cst) (TRef.of (T := ⟨S4x2048, .f32⟩) main_call3_v0) (fun x v => Host.reduce FloatOps.maximumf x v reducesTo_S4x2048x256_S4x2048_d2 h_S_),
    TRef.nullary (TRef.of (T := ⟨S_, .f32⟩) main_call3_cst_0) (constant S_ .f32 0xFF800000#32),
    TRef.unary (TRef.of (T := ⟨S_, .f32⟩) main_call3_cst_0) (TRef.of (T := ⟨S4x2048, .f32⟩) main_call3_v1) (broadcastInDim S4x2048 ![] bcast_S_S4x2048),
    TRef.binary (TRef.of (T := ⟨S4x2048, .f32⟩) main_call3_v1) (TRef.of (T := ⟨S4x2048, .f32⟩) main_call3_v0) (TRef.of (T := ⟨S4x2048, .f32⟩) main_call3_v2) maximumf,
    TRef.unary (TRef.of (T := ⟨S4x2048, .f32⟩) main_call3_v2) (TRef.of (T := ⟨S4x2048x1, .f32⟩) main_call3_v3) (broadcastInDim S4x2048x1 ![0, 1] bcast_S4x2048_S4x2048x1_0_1),
    TRef.unary (TRef.of (T := ⟨S4x2048x1, .f32⟩) main_call3_v3) (TRef.of (T := ⟨S4x2048x256, .f32⟩) main_call3_v4) (broadcastInDim S4x2048x256 ![0, 1, 2] bcast_S4x2048x1_S4x2048x256_0_1_2),
    TRef.binary (TRef.of (T := ⟨S4x2048x256, .f32⟩) main_v53) (TRef.of (T := ⟨S4x2048x256, .f32⟩) main_call3_v4) (TRef.of (T := ⟨S4x2048x256, .f32⟩) main_call3_v5) subf,
    TRef.unary (TRef.of (T := ⟨S4x2048x256, .f32⟩) main_call3_v5) (TRef.of (T := ⟨S4x2048x256, .f32⟩) main_call3_v6) Host.exp,
    TRef.nullary (TRef.of (T := ⟨S_, .f32⟩) main_call3_cst_1) (constant S_ .f32 0x00000000#32),
    TRef.binary (TRef.of (T := ⟨S4x2048x256, .f32⟩) main_call3_v6) (TRef.of (T := ⟨S_, .f32⟩) main_call3_cst_1) (TRef.of (T := ⟨S4x2048, .f32⟩) main_call3_v7) (fun x v => Host.reduceAdd x v reducesTo_S4x2048x256_S4x2048_d2 h_S_),
    TRef.unary (TRef.of (T := ⟨S4x2048, .f32⟩) main_call3_v7) (TRef.of (T := ⟨S4x2048x1, .f32⟩) main_call3_v8) (broadcastInDim S4x2048x1 ![0, 1] bcast_S4x2048_S4x2048x1_0_1),
    TRef.unary (TRef.of (T := ⟨S4x2048x1, .f32⟩) main_call3_v8) (TRef.of (T := ⟨S4x2048x1, .f32⟩) main_call3_v9) Host.log,
    TRef.unary (TRef.of (T := ⟨S4x2048x1, .f32⟩) main_call3_v9) (TRef.of (T := ⟨S4x2048x256, .f32⟩) main_call3_v10) (broadcastInDim S4x2048x256 ![0, 1, 2] bcast_S4x2048x1_S4x2048x256_0_1_2),
    TRef.binary (TRef.of (T := ⟨S4x2048x256, .f32⟩) main_call3_v5) (TRef.of (T := ⟨S4x2048x256, .f32⟩) main_call3_v10) (TRef.of (T := ⟨S4x2048x256, .f32⟩) main_v54) subf,
    unary main_arg0 main_v55 (broadcastInDim S4x2048x1 ![0, 1] bcast_S4x2048_S4x2048x1_0_1 : (⟨S4x2048, .i32⟩ : BufTy).Contents (Elt F) → (⟨S4x2048x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4x2048x1, .i32⟩) main_call4_v0) (broadcastInDim S4x2048x1 ![] bcast_S_S4x2048x1),
    TRef.binary (TRef.of (T := ⟨S4x2048x1, .i32⟩) main_v55) (TRef.of (T := ⟨S4x2048x1, .i32⟩) main_call4_v0) (TRef.of (T := ⟨S4x2048x1, .i1⟩) main_call4_v1) (cmpi .slt),
    TRef.nullary (TRef.of (T := ⟨S_, .i32⟩) main_call4_c_0) (constantI S_ 32 256#32),
    TRef.unary (TRef.of (T := ⟨S_, .i32⟩) main_call4_c_0) (TRef.of (T := ⟨S4x2048x1, .i32⟩) main_call4_v2) (broadcastInDim S4x2048x1 ![] bcast_S_S4x2048x1),
    TRef.binary (TRef.of (T := ⟨S4x2048x1, .i32⟩) main_v55) (TRef.of (T := ⟨S4x2048x1, .i32⟩) main_call4_v2) (TRef.of (T := ⟨S4x2048x1, .i32⟩) main_call4_v3) addi,
    TRef.ternary (TRef.of (T := ⟨S4x2048x1, .i1⟩) main_call4_v1) (TRef.of (T := ⟨S4x2048x1, .i32⟩) main_call4_v3) (TRef.of (T := ⟨S4x2048x1, .i32⟩) main_v55) (TRef.of (T := ⟨S4x2048x1, .i32⟩) main_call4_v4) select,
    TRef.reshape (TRef.of (T := ⟨S4x2048x1, .i32⟩) main_call4_v4) (TRef.of (T := ⟨S4x2048x1x1, .i32⟩) main_call4_v5) (rfl : (.i32 : EltTy) = .i32) shapeCasts_S4x2048x1_S4x2048x1x1,
    TRef.nullary (TRef.of (T := ⟨S1, .i32⟩) main_call4_c_1) (constantI S1 32 255#32),
    TRef.nullary (TRef.of (T := ⟨S_, .i32⟩) main_call4_c_2) (constantI S_ 32 0#32),
    TRef.unary (TRef.of (T := ⟨S_, .i32⟩) main_call4_c_2) (TRef.of (T := ⟨S4x2048x1x1, .i32⟩) main_call4_v6) (broadcastInDim S4x2048x1x1 ![] bcast_S_S4x2048x1x1),
    TRef.binary (TRef.of (T := ⟨S4x2048x1x1, .i32⟩) main_call4_v5) (TRef.of (T := ⟨S4x2048x1x1, .i32⟩) main_call4_v6) (TRef.of (T := ⟨S4x2048x1x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S4x2048x1x1, .i32⟩) main_call4_v9) (broadcastInDim S4x2048x1x1 ![0, 1, 2, 3] bcast_S1x1x1x1_S4x2048x1x1_0_1_2_3),
    TRef.binary (TRef.of (T := ⟨S4x2048x1x1, .i32⟩) main_call4_v5) (TRef.of (T := ⟨S4x2048x1x1, .i32⟩) main_call4_v9) (TRef.of (T := ⟨S4x2048x1x1, .i1⟩) main_call4_v10) (cmpi .sle),
    TRef.binary (TRef.of (T := ⟨S4x2048x1x1, .i1⟩) main_call4_v7) (TRef.of (T := ⟨S4x2048x1x1, .i1⟩) main_call4_v10) (TRef.of (T := ⟨S4x2048x1x1, .i1⟩) main_call4_v11) andi,
    TRef.nullary (TRef.of (T := ⟨S_, .i1⟩) main_call4_c_3) (constantI S_ 1 1#1),
    TRef.binary (TRef.of (T := ⟨S4x2048x1x1, .i1⟩) main_call4_v11) (TRef.of (T := ⟨S_, .i1⟩) main_call4_c_3) (TRef.of (T := ⟨S4x2048x1, .i1⟩) main_call4_v12) (fun x v => Host.reduce IntOp.andi x v reducesTo_S4x2048x1x1_S4x2048x1_d3 h_S_),
    TRef.binary (TRef.of (T := ⟨S4x2048x256, .f32⟩) main_v54) (TRef.of (T := ⟨S4x2048x1x1, .i32⟩) main_call4_v5) (TRef.of (T := ⟨S4x2048x1, .f32⟩) main_call4_v13) (fun x i => Host.gather gather_S4x2048x256_S4x2048x1x1_S4x2048x1_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S4x2048x1, .f32⟩) main_call4_v14) (broadcastInDim S4x2048x1 ![] bcast_S_S4x2048x1),
    TRef.ternary (TRef.of (T := ⟨S4x2048x1, .i1⟩) main_call4_v12) (TRef.of (T := ⟨S4x2048x1, .f32⟩) main_call4_v13) (TRef.of (T := ⟨S4x2048x1, .f32⟩) main_call4_v14) (TRef.of (T := ⟨S4x2048x1, .f32⟩) main_v56) select,
    nullary main_cst_10 (constant S_ .f32 0x00000000#32),
    binary main_v56 main_cst_10 main_v57 ((fun x v => Host.reduceAdd x v reducesTo_S4x2048x1_S_d0_1_2 h_S_) : (⟨S4x2048x1, .f32⟩ : BufTy).Contents (Elt F) → (⟨S_, .f32⟩ : BufTy).Contents (Elt F) → (⟨S_, .f32⟩ : BufTy).Contents (Elt F)),
    nullary main_cst_11 (constant S_ .f32 0x46000000#32),
    binary main_v57 main_cst_11 main_v58 (Host.divf : (⟨S_, .f32⟩ : BufTy).Contents (Elt F) → (⟨S_, .f32⟩ : BufTy).Contents (Elt F) → (⟨S_, .f32⟩ : BufTy).Contents (Elt F)),
    unary main_v58 main_v59 (Host.negf : (⟨S_, .f32⟩ : BufTy).Contents (Elt F) → (⟨S_, .f32⟩ : BufTy).Contents (Elt F)) ]

abbrev part0 : List (HloOp τ sig (Elt F)) := seg0 ++ seg1 ++ seg2 ++ seg3

abbrev part1 : List (HloOp τ sig (Elt F)) := seg4 ++ seg5

/-- Every operation of the reference, in order. -/
abbrev ops : List (HloOp τ sig (Elt F)) := part0 ++ part1

set_option maxRecDepth 8192 in
set_option maxHeartbeats 4000000 in
theorem part0_eq (c : Dev nD) : main_part0 (F := F) c = seq part0 := rfl

set_option maxRecDepth 8192 in
set_option maxHeartbeats 4000000 in
theorem part1_eq (c : Dev nD) : main_part1 (F := F) c = seq part1 := rfl

set_option maxRecDepth 8192 in
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem seg0_sub : (seg0 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩
set_option maxRecDepth 8192 in
theorem seg0_fresh : (seg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem seg1_sub : (seg1 : List (HloOp τ sig (Elt F))).Forall fun op => op.bufs ⊆ tcRefs τ sig :=
  ⟨nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub ..⟩
set_option maxRecDepth 8192 in
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl⟩

set_option maxRecDepth 8192 in
theorem seg2_sub : (seg2 : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 8192 in
theorem seg2_fresh : (seg2 : List (HloOp τ sig (Elt F))).Forall fun op => op.fresh = ∅ :=
  ⟨rfl, rfl, rfl, rfl, rfl⟩

set_option maxRecDepth 8192 in
theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., unary_bufs_sub ..⟩
set_option maxRecDepth 8192 in
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

set_option maxRecDepth 8192 in
theorem seg4_sub : (seg4 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub ..⟩
set_option maxRecDepth 8192 in
theorem seg4_fresh : (seg4 : List (HloOp τ sig (Elt F))).Forall fun op => op.fresh = ∅ :=
  ⟨rfl, rfl, rfl, rfl, rfl, rfl, rfl, rfl⟩

set_option maxRecDepth 8192 in
theorem seg5_sub : (seg5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩
set_option maxRecDepth 8192 in
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A property of every operation, from its segments. -/
theorem forall_ops {p : HloOp τ sig (Elt F) → Prop} (h0 : (seg0 : List (HloOp τ sig (Elt F))).Forall p) (h1 : (seg1 : List (HloOp τ sig (Elt F))).Forall p) (h2 : (seg2 : List (HloOp τ sig (Elt F))).Forall p) (h3 : (seg3 : List (HloOp τ sig (Elt F))).Forall p) (h4 : (seg4 : List (HloOp τ sig (Elt F))).Forall p) (h5 : (seg5 : List (HloOp τ sig (Elt F))).Forall p) :
    (ops : List (HloOp τ sig (Elt F))).Forall p := by
  simp only [ops, part0, part1, List.forall_append]
  exact ⟨⟨⟨⟨h0, h1⟩, h2⟩, h3⟩, ⟨h4, h5⟩⟩

theorem ops_sub : (ops : List (HloOp τ sig (Elt F))).Forall fun op => op.bufs ⊆ tcRefs τ sig :=
  forall_ops seg0_sub seg1_sub seg2_sub seg3_sub seg4_sub seg5_sub

theorem ops_fresh : ∀ op ∈ (ops : List (HloOp τ sig (Elt F))), op.fresh = ∅ :=
  List.forall_iff_forall_mem.mp (forall_ops seg0_fresh seg1_fresh seg2_fresh seg3_fresh seg4_fresh seg5_fresh)

/-- The run: every buffer ends at what the operations leave there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ fun _ => ops_fresh

end Cert.RefRun

end
-- ==== Proof.RefWrites.lean ====
/- What each segment of the reference's operations writes, so that any buffer it does not write is kept through it. -/
module

public import proofs.«01_k».proof.Proof.RefRun

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- An operation's one written buffer is in the list. -/
theorem writes_of_mem {op : HloOp τ sig (Elt F)} {W : List (Ref sig .tc)} (r : Ref sig .tc) (h : op.writes = {Proc.devRef (τ := τ) .tc r}) (hr : r ∈ W) :
    op.writes ⊆ (W.map (Proc.devRef (τ := τ) .tc)).toFinset := by
  rw [h, Finset.singleton_subset_iff, List.mem_toFinset]
  exact List.mem_map_of_mem hr

/-- What segment 0 writes. -/
abbrev W0 : List (Ref sig .tc) := [main_c, main_v0, main_v1, main_v2, main_c_0, main_v3, main_v4, main_c_1, main_v5, main_v6, main_v7, main_c_2, main_v8, main_v9, main_c_3, main_v10, main_v11, main_v12, main_v13, main_v14, main_v15, main_v16, main_v17]

theorem seg0_writes : (seg0 : List (HloOp τ sig (Elt F))).Forall fun op => op.writes ⊆ (W0.map (Proc.devRef (τ := τ) .tc)).toFinset :=
  ⟨writes_of_mem main_c rfl (by decide), writes_of_mem main_v0 rfl (by decide), writes_of_mem main_v1 rfl (by decide), writes_of_mem main_v2 rfl (by decide), writes_of_mem main_c_0 rfl (by decide), writes_of_mem main_v3 rfl (by decide), writes_of_mem main_v4 rfl (by decide), writes_of_mem main_c_1 rfl (by decide), writes_of_mem main_v5 rfl (by decide), writes_of_mem main_v6 rfl (by decide), writes_of_mem main_v7 rfl (by decide), writes_of_mem main_c_2 rfl (by decide), writes_of_mem main_v8 rfl (by decide), writes_of_mem main_v9 rfl (by decide), writes_of_mem main_c_3 rfl (by decide), writes_of_mem main_v10 rfl (by decide), writes_of_mem main_v11 rfl (by decide), writes_of_mem main_v12 rfl (by decide), writes_of_mem main_v13 rfl (by decide), writes_of_mem main_v14 rfl (by decide), writes_of_mem main_v15 rfl (by decide), writes_of_mem main_v16 rfl (by decide), writes_of_mem main_v17 rfl (by decide)⟩

/-- Segment 0 keeps what it does not write. -/
theorem keep0 (V : Valuation τ sig (Elt F)) (r : Ref sig .tc) (h : r ∉ W0) : after seg0 V (Proc.devRef .tc r) = V (Proc.devRef .tc r) :=
  after_of_writes_sub _ V seg0_writes h

/-- What segment 1 writes. -/
abbrev W1 : List (Ref sig .tc) := [main_cst, main_v18, main_v19, main_v20, main_cst_4, main_cst_5, main_call0_v0, main_call0_v1, main_call0_v2, main_call0_v3, main_call0_v4, main_v21, main_v22, main_v23, main_v24, main_v25, main_v26]

theorem seg1_writes : (seg1 : List (HloOp τ sig (Elt F))).Forall fun op => op.writes ⊆ (W1.map (Proc.devRef (τ := τ) .tc)).toFinset :=
  ⟨writes_of_mem main_cst rfl (by decide), writes_of_mem main_v18 rfl (by decide), writes_of_mem main_v19 rfl (by decide), writes_of_mem main_v20 rfl (by decide), writes_of_mem main_cst_4 rfl (by decide), writes_of_mem main_cst_5 rfl (by decide), writes_of_mem main_call0_v0 rfl (by decide), writes_of_mem main_call0_v1 rfl (by decide), writes_of_mem main_call0_v2 rfl (by decide), writes_of_mem main_call0_v3 rfl (by decide), writes_of_mem main_call0_v4 rfl (by decide), writes_of_mem main_v21 rfl (by decide), writes_of_mem main_v22 rfl (by decide), writes_of_mem main_v23 rfl (by decide), writes_of_mem main_v24 rfl (by decide), writes_of_mem main_v25 rfl (by decide), writes_of_mem main_v26 rfl (by decide)⟩

/-- Segment 1 keeps what it does not write. -/
theorem keep1 (V : Valuation τ sig (Elt F)) (r : Ref sig .tc) (h : r ∉ W1) : after seg1 V (Proc.devRef .tc r) = V (Proc.devRef .tc r) :=
  after_of_writes_sub _ V seg1_writes h

/-- What segment 2 writes. -/
abbrev W2 : List (Ref sig .tc) := [main_call1_v0, main_call1_cst, main_call1_c, main_call1_v1_0, main_v27]

theorem seg2_writes : (seg2 : List (HloOp τ sig (Elt F))).Forall fun op => op.writes ⊆ (W2.map (Proc.devRef (τ := τ) .tc)).toFinset :=
  ⟨writes_of_mem main_call1_v0 rfl (by decide), writes_of_mem main_call1_cst rfl (by decide), writes_of_mem main_call1_c rfl (by decide), writes_of_mem main_call1_v1_0 rfl (by decide), writes_of_mem main_v27 rfl (by decide)⟩

/-- Segment 2 keeps what it does not write. -/
theorem keep2 (V : Valuation τ sig (Elt F)) (r : Ref sig .tc) (h : r ∉ W2) : after seg2 V (Proc.devRef .tc r) = V (Proc.devRef .tc r) :=
  after_of_writes_sub _ V seg2_writes h

/-- What segment 3 writes. -/
abbrev W3 : List (Ref sig .tc) := [main_c_6, main_v28, main_v29, main_c_7, main_v30, main_v31, main_v32, main_v33, main_v34, main_c_8, main_v35, main_v36, main_c_9, main_v37, main_v38, main_v39, main_v40, main_v41, main_v42, main_v43, main_v44, main_v45, main_v46, main_v47]

theorem seg3_writes : (seg3 : List (HloOp τ sig (Elt F))).Forall fun op => op.writes ⊆ (W3.map (Proc.devRef (τ := τ) .tc)).toFinset :=
  ⟨writes_of_mem main_c_6 rfl (by decide), writes_of_mem main_v28 rfl (by decide), writes_of_mem main_v29 rfl (by decide), writes_of_mem main_c_7 rfl (by decide), writes_of_mem main_v30 rfl (by decide), writes_of_mem main_v31 rfl (by decide), writes_of_mem main_v32 rfl (by decide), writes_of_mem main_v33 rfl (by decide), writes_of_mem main_v34 rfl (by decide), writes_of_mem main_c_8 rfl (by decide), writes_of_mem main_v35 rfl (by decide), writes_of_mem main_v36 rfl (by decide), writes_of_mem main_c_9 rfl (by decide), writes_of_mem main_v37 rfl (by decide), writes_of_mem main_v38 rfl (by decide), writes_of_mem main_v39 rfl (by decide), writes_of_mem main_v40 rfl (by decide), writes_of_mem main_v41 rfl (by decide), writes_of_mem main_v42 rfl (by decide), writes_of_mem main_v43 rfl (by decide), writes_of_mem main_v44 rfl (by decide), writes_of_mem main_v45 rfl (by decide), writes_of_mem main_v46 rfl (by decide), writes_of_mem main_v47 rfl (by decide)⟩

/-- Segment 3 keeps what it does not write. -/
theorem keep3 (V : Valuation τ sig (Elt F)) (r : Ref sig .tc) (h : r ∉ W3) : after seg3 V (Proc.devRef .tc r) = V (Proc.devRef .tc r) :=
  after_of_writes_sub _ V seg3_writes h

/-- What segment 4 writes. -/
abbrev W4 : List (Ref sig .tc) := [main_v48, main_call2_cst, main_call2_v0, main_v49, main_v50, main_v51, main_v52, main_v53]

theorem seg4_writes : (seg4 : List (HloOp τ sig (Elt F))).Forall fun op => op.writes ⊆ (W4.map (Proc.devRef (τ := τ) .tc)).toFinset :=
  ⟨writes_of_mem main_v48 rfl (by decide), writes_of_mem main_call2_cst rfl (by decide), writes_of_mem main_call2_v0 rfl (by decide), writes_of_mem main_v49 rfl (by decide), writes_of_mem main_v50 rfl (by decide), writes_of_mem main_v51 rfl (by decide), writes_of_mem main_v52 rfl (by decide), writes_of_mem main_v53 rfl (by decide)⟩

/-- Segment 4 keeps what it does not write. -/
theorem keep4 (V : Valuation τ sig (Elt F)) (r : Ref sig .tc) (h : r ∉ W4) : after seg4 V (Proc.devRef .tc r) = V (Proc.devRef .tc r) :=
  after_of_writes_sub _ V seg4_writes h

/-- What segment 5 writes. -/
abbrev W5 : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v54, main_v55, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v56, main_cst_10, main_v57, main_cst_11, main_v58, main_v59]

theorem seg5_writes : (seg5 : List (HloOp τ sig (Elt F))).Forall fun op => op.writes ⊆ (W5.map (Proc.devRef (τ := τ) .tc)).toFinset :=
  ⟨writes_of_mem main_call3_cst rfl (by decide), writes_of_mem main_call3_v0 rfl (by decide), writes_of_mem main_call3_cst_0 rfl (by decide), writes_of_mem main_call3_v1 rfl (by decide), writes_of_mem main_call3_v2 rfl (by decide), writes_of_mem main_call3_v3 rfl (by decide), writes_of_mem main_call3_v4 rfl (by decide), writes_of_mem main_call3_v5 rfl (by decide), writes_of_mem main_call3_v6 rfl (by decide), writes_of_mem main_call3_cst_1 rfl (by decide), writes_of_mem main_call3_v7 rfl (by decide), writes_of_mem main_call3_v8 rfl (by decide), writes_of_mem main_call3_v9 rfl (by decide), writes_of_mem main_call3_v10 rfl (by decide), writes_of_mem main_v54 rfl (by decide), writes_of_mem main_v55 rfl (by decide), writes_of_mem main_call4_c rfl (by decide), writes_of_mem main_call4_v0 rfl (by decide), writes_of_mem main_call4_v1 rfl (by decide), writes_of_mem main_call4_c_0 rfl (by decide), writes_of_mem main_call4_v2 rfl (by decide), writes_of_mem main_call4_v3 rfl (by decide), writes_of_mem main_call4_v4 rfl (by decide), writes_of_mem main_call4_v5 rfl (by decide), writes_of_mem main_call4_c_1 rfl (by decide), writes_of_mem main_call4_c_2 rfl (by decide), writes_of_mem main_call4_v6 rfl (by decide), writes_of_mem main_call4_v7 rfl (by decide), writes_of_mem main_call4_v8 rfl (by decide), writes_of_mem main_call4_v9 rfl (by decide), writes_of_mem main_call4_v10 rfl (by decide), writes_of_mem main_call4_v11 rfl (by decide), writes_of_mem main_call4_c_3 rfl (by decide), writes_of_mem main_call4_v12 rfl (by decide), writes_of_mem main_call4_v13 rfl (by decide), writes_of_mem main_call4_cst rfl (by decide), writes_of_mem main_call4_v14 rfl (by decide), writes_of_mem main_v56 rfl (by decide), writes_of_mem main_cst_10 rfl (by decide), writes_of_mem main_v57 rfl (by decide), writes_of_mem main_cst_11 rfl (by decide), writes_of_mem main_v58 rfl (by decide), writes_of_mem main_v59 rfl (by decide)⟩

/-- Segment 5 keeps what it does not write. -/
theorem keep5 (V : Valuation τ sig (Elt F)) (r : Ref sig .tc) (h : r ∉ W5) : after seg5 V (Proc.devRef .tc r) = V (Proc.devRef .tc r) :=
  after_of_writes_sub _ V seg5_writes h

/-- The operations in order, segment by segment. -/
theorem after_ops (V : Valuation τ sig (Elt F)) : after ops V = after seg5 (after seg4 (after seg3 (after seg2 (after seg1 (after seg0 V))))) := by
  simp only [ops, part0, part1, after_append]

/-- A buffer that no operation writes is kept through all of them. -/
theorem keep (V : Valuation τ sig (Elt F)) (r : Ref sig .tc) (h0 : r ∉ W0) (h1 : r ∉ W1) (h2 : r ∉ W2) (h3 : r ∉ W3) (h4 : r ∉ W4) (h5 : r ∉ W5) :
    after ops V (Proc.devRef .tc r) = V (Proc.devRef .tc r) := by
  rw [after_ops, keep5 _ r h5, keep4 _ r h4, keep3 _ r h3, keep2 _ r h2, keep1 _ r h1, keep0 _ r h0]

end Cert.RefRun

end
-- ==== Proof.Frames.lean ====
/- The frames: each program runs, leaves its arguments as they were, and ends with every counter at zero. The kernel's
   two readings need their step numbers between 1 and 100, which both preconditions say. -/
module

public import proofs.«01_k».proof.Defs
public import proofs.«01_k».proof.Proof.KernelFrame
public import proofs.«01_k».proof.Proof.KernelIdealFrame
public import proofs.«01_k».proof.Proof.Gen.Pre_absorbing_chain
public import proofs.«01_k».proof.Proof.KernelTables
public import proofs.«01_k».proof.Proof.KernelIdealTables
public import proofs.«01_k».proof.Proof.RefWrites

@[expose] public section

noncomputable section

namespace Cert.Frames

open Idealize.ShloMosaic Idealize.ShloMosaic.StableHlo Idealize.ShloMosaic.TcCoe Idealize.SL.Sem

/-- The chain's precondition says of the step numbers what the plain one does. -/
theorem steps_of_chain (m : (ℓ : Loc KernelIdeal.nD KernelIdeal.τ KernelIdeal.sig) → Buf (Elt Ideal) ℓ) (h : Pre_KernelIdeal_absorbing_chain m) :
    Pre_KernelIdeal m := fun c => (h c).1

theorem kernel_ok (m : (ℓ : Loc Kernel.nD Kernel.τ Kernel.sig) → Buf (Elt Bits) ℓ) (h : Pre_Kernel m) : Kernel.Gen.Ok m :=
  KernelTables.ok_of_steps _ fun b => by
    rw [KernelTables.word_tbl]
    exact StepRange.isStep_of_bit _ (congrFun (h 0) (ValueIdx.ix1 b))

theorem kernelIdeal_ok (m : (ℓ : Loc KernelIdeal.nD KernelIdeal.τ KernelIdeal.sig) → Buf (Elt Ideal) ℓ) (h : Pre_KernelIdeal m) : KernelIdeal.Gen.Ok m :=
  KernelIdealTables.ok_of_steps _ fun b => by
    rw [KernelIdealTables.word_tbl]
    exact StepRange.isStep_of_bit _ (congrFun (h 0) (ValueIdx.ix1 b))

theorem kernel : quiescent_Kernel := fun m ρ h => Kernel.Gen.frame m ρ (kernel_ok m h)

theorem kernelIdeal : quiescent_KernelIdeal := fun m ρ h => KernelIdeal.Gen.frame m ρ (kernelIdeal_ok m h)

theorem kernelIdeal_chain : quiescent_KernelIdeal_pre_absorbing_chain := fun m ρ h =>
  KernelIdeal.Gen.frame m ρ (kernelIdeal_ok m (steps_of_chain m h))

/-- An argument of the reference is kept: no segment writes it. -/
theorem ref_keeps {V : Valuation ReferenceIdeal.τ ReferenceIdeal.sig (Elt Ideal)} (r : Ref ReferenceIdeal.sig .tc)
    (h : r ∈ ([ReferenceIdeal.main_arg0, ReferenceIdeal.main_arg1, ReferenceIdeal.main_arg2, ReferenceIdeal.main_arg3, ReferenceIdeal.main_arg4, ReferenceIdeal.main_arg5, ReferenceIdeal.main_arg6, ReferenceIdeal.main_arg7, ReferenceIdeal.main_arg8, ReferenceIdeal.main_arg9, ReferenceIdeal.main_arg10] : List (Ref ReferenceIdeal.sig .tc))) :
    after RefRun.ops V (Proc.devRef .tc r) = V (Proc.devRef .tc r) := by
  refine RefRun.keep V r ?_ ?_ ?_ ?_ ?_ ?_
  all_goals revert r; decide

theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ fun r =>
      ∀ c : Dev ReferenceIdeal.nD, ∀ b ∈ ([ReferenceIdeal.main_arg0, ReferenceIdeal.main_arg1, ReferenceIdeal.main_arg2, ReferenceIdeal.main_arg3, ReferenceIdeal.main_arg4, ReferenceIdeal.main_arg5, ReferenceIdeal.main_arg6, ReferenceIdeal.main_arg7, ReferenceIdeal.main_arg8, ReferenceIdeal.main_arg9, ReferenceIdeal.main_arg10] : List (Ref ReferenceIdeal.sig .tc)),
        r.2.mem ((c.tc : Thread ReferenceIdeal.nD ReferenceIdeal.τ).loc b) = m ((c.tc : Thread ReferenceIdeal.nD ReferenceIdeal.τ).loc b) :=
  (θ_run ReferenceIdeal.defs _ _).mono (fun r hr c b hb => (hr c b).trans (ref_keeps b hb)) (RefRun.run m g)

theorem reference : quiescent_ReferenceIdeal := fun m g _ =>
  (θ_run ReferenceIdeal.defs _ _).mono (fun r hr => ⟨fun c => ⟨hr c _ (by decide), hr c _ (by decide), hr c _ (by decide), hr c _ (by decide), hr c _ (by decide), hr c _ (by decide), hr c _ (by decide), hr c _ (by decide), hr c _ (by decide), hr c _ (by decide), hr c _ (by decide)⟩, sem_eq_zero_of_no_sems (by decide) _⟩) (reference_run m g)

theorem reference_chain : quiescent_ReferenceIdeal_pre_absorbing_chain := fun m g _ =>
  (θ_run ReferenceIdeal.defs _ _).mono (fun r hr => ⟨fun c => ⟨hr c _ (by decide), hr c _ (by decide), hr c _ (by decide), hr c _ (by decide), hr c _ (by decide), hr c _ (by decide), hr c _ (by decide), hr c _ (by decide), hr c _ (by decide), hr c _ (by decide), hr c _ (by decide)⟩, sem_eq_zero_of_no_sems (by decide) _⟩) (reference_run m g)

end Cert.Frames

end
-- ==== Proof.Rows.lean ====
/- The loss on one row of 256 columns, over the extended reals, and the equations between the two ways of writing it. -/
module

public import Idealize.ShloMosaic.Lib.Pointwise

@[expose] public section

noncomputable section

namespace Cert.Rows

open Idealize.ShloMosaic

/-- A row of 256 columns. -/
abbrev Row := Fin 256 → EReal

/-- The small number inside the logarithms. -/
def eps : EReal := Ideal.ofBits .f32 0x358637BD#32

/-- A row's greatest entry. -/
def top (d : Row) : EReal := Finset.univ.fold max ⊥ d

/-- The sum of the exponentials of a row's entries less the greatest. -/
def mass (d : Row) : EReal := ∑ k, Ideal.exp (d k - top d)

/-- The logarithm of the softmax. -/
def lsm (d : Row) : Row := fun c => d c - top d - Ideal.log (mass d)

/-- The Gumbel noise of a uniform draw. -/
def gum (n : EReal) : EReal := -Ideal.log (-Ideal.log (min 1 (max eps n)))

/-- A transition row's logits with noise. -/
def noisy (Q n : Row) : Row := fun c => Ideal.log (Q c + eps) + gum (n c)

/-- The model's logits from an embedding row, a step row and the layers. -/
def net (e s : Fin 1024 → EReal) (W1 : Fin 1024 → Fin 1024 → EReal) (b1 : Fin 1024 → EReal) (W2 : Fin 1024 → Row) (b2 : Row) : Row := fun c =>
  ∑ j, max (∑ i, (e i + s i) * W1 i j + b1 j) 0 * W2 j c + b2 c

/-- The first column at which a row is greatest. -/
def First (v : Row) (p : Fin 256) : Prop := top v ≤ v p ∧ ∀ k, top v ≤ v k → p ≤ k

theorem top_eq_sup (d : Row) : top d = Finset.univ.sup d := rfl

theorem le_top (d : Row) (k : Fin 256) : d k ≤ top d := by
  rw [top_eq_sup]; exact Finset.le_sup (Finset.mem_univ k)

theorem top_mem (d : Row) : ∃ k, top d = d k := by
  obtain ⟨k, _, h⟩ := Finset.exists_mem_eq_sup Finset.univ ⟨0, Finset.mem_univ _⟩ d
  exact ⟨k, h⟩

theorem First.unique {v : Row} {p q : Fin 256} (hp : First v p) (hq : First v q) : p = q :=
  le_antisymm (hp.2 q hq.1) (hq.2 p hp.1)

theorem First.exists (v : Row) : ∃ p, First v p := by
  obtain ⟨k, hk⟩ := top_mem v
  have hne : (Finset.univ.filter fun j => top v ≤ v j).Nonempty := ⟨k, by simp [hk]⟩
  refine ⟨_, (Finset.mem_filter.mp (Finset.min'_mem _ hne)).2, fun j hj => Finset.min'_le _ _ (by simp [hj])⟩

/-- A value that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.zero : IsReal 0 := ⟨0, EReal.coe_zero.symm⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ k, IsReal (f k)) : IsReal (∑ k ∈ s, f k) := by
  choose g hg using h
  exact ⟨∑ k ∈ s, g k, by rw [coe_sum]; exact Finset.sum_congr rfl fun k _ => hg k⟩

/-- Real weights give real logits. -/
theorem net_real {e s : Fin 1024 → EReal} {W1 : Fin 1024 → Fin 1024 → EReal} {b1 : Fin 1024 → EReal} {W2 : Fin 1024 → Row} {b2 : Row}
    (he : ∀ i, IsReal (e i)) (hs : ∀ i, IsReal (s i)) (h1 : ∀ i j, IsReal (W1 i j)) (hb1 : ∀ j, IsReal (b1 j)) (h2 : ∀ j c, IsReal (W2 j c)) (hb2 : ∀ c, IsReal (b2 c))
    (c : Fin 256) : IsReal (net e s W1 b1 W2 b2 c) :=
  (IsReal.sum _ _ fun j => (((IsReal.sum _ _ fun i => ((he i).add (hs i)).mul (h1 i j)).add (hb1 j)).max .zero).mul (h2 j c)).add (hb2 c)

/-- On a real row the logarithm of the softmax is real, and subtracting the greatest entry and the logarithm one by one or together is the same. -/
theorem lsm_real (d : Row) (hd : ∀ k, IsReal (d k)) (c : Fin 256) : ∃ r : ℝ, lsm d c = r ∧ d c - (top d + Ideal.log (mass d)) = r := by
  choose r hr using hd
  obtain ⟨k0, hk⟩ := top_mem d
  have ht : top d = (r k0 : EReal) := by rw [hk, hr]
  have hm : mass d = ((∑ k, Real.exp (r k - r k0) : ℝ) : EReal) := by
    rw [coe_sum]
    refine Finset.sum_congr rfl fun k _ => ?_
    rw [ht, hr k, ← EReal.coe_sub]
    rfl
  have hpos : 0 < ∑ k, Real.exp (r k - r k0) := Finset.sum_pos (fun k _ => Real.exp_pos _) ⟨0, Finset.mem_univ _⟩
  have hl : Ideal.log (mass d) = (Real.log (∑ k, Real.exp (r k - r k0)) : EReal) := by
    rw [hm]
    show (if _ ≤ (0 : ℝ) then ⊥ else _) = _
    rw [if_neg (not_le.mpr hpos)]
  refine ⟨r c - r k0 - Real.log (∑ k, Real.exp (r k - r k0)), ?_, ?_⟩
  · unfold lsm
    rw [hl, ht, hr c, ← EReal.coe_sub, ← EReal.coe_sub]
  · rw [hl, ht, hr c, ← EReal.coe_add, ← EReal.coe_sub, sub_sub]

/-- A one-hot row picks its entry of a column. -/
theorem pick_sum (p : Fin 256) (f : Row) : ∑ k, (if k = p then (1 : EReal) else 0) * f k = f p := by
  rw [Finset.sum_eq_single p]
  · rw [if_pos rfl, one_mul]
  · intro k _ hk; rw [if_neg hk, zero_mul]
  · intro h; exact absurd (Finset.mem_univ p) h

/-- So does a sum over the columns that leaves out all but one. -/
theorem only_sum (p : Fin 256) (f : Row) : ∑ k, (if k = p then f k else 0) = f p := by
  rw [Finset.sum_eq_single p]
  · rw [if_pos rfl]
  · intro k _ hk; rw [if_neg hk]
  · intro h; exact absurd (Finset.mem_univ p) h

/-- The places of a batch entry, tile by tile. -/
theorem sum_tiles (f : Fin 2048 → ℝ) : ∑ l, f l = ∑ j : Fin 4, ∑ r : Fin 512, f ⟨512 * j.val + r.val, by omega⟩ := by
  rw [← (finProdFinEquiv (m := 4) (n := 512)).sum_comp, Fintype.sum_prod_type]
  refine Finset.sum_congr rfl fun j _ => Finset.sum_congr rfl fun r _ => congrArg f (Fin.ext ?_)
  exact Nat.add_comm _ _

end Cert.Rows

end
-- ==== Proof.TileDraw.lean ====
/- A tile's rows drawn by the kernel: one-hot at the first column where the row is greatest. -/
module

public import proofs.«01_k».proof.Proof.Gen.KernelIdeal.Skeleton
public import Idealize.ShloMosaic.Lib.Pointwise
public import proofs.«01_k».proof.Proof.Rows

@[expose] public section

set_option maxRecDepth 16384

noncomputable section

namespace Cert.Tile

open Cert.KernelIdeal Cert.KernelIdeal.Gen Idealize.ShloMosaic Cert.Rows

variable (r : Fin 512) (k : Fin 256)

/-- A column's number as a word. -/
abbrev num (k : Fin 256) : BitVec 32 := BitVec.ofNat 32 k.val

/-- The column numbers of a tile. -/
abbrev cols : IVec S512x256 32 := iota Kind.tc S512x256 32 [1] iota_S512x256_d1_w32

theorem cols_apply : cols (ix2 r k) = num k := by
  pointwise

/-- Every row's greatest entry. -/
def tops (v : FVec Ideal S512x256 .f32) : FVec Ideal S512 .f32 := multiReduction .maximumf [1] S512 v 0xFF800000#32 reduces_S512x256_S512 (.inl rfl) rfl

/-- Every row's least word. -/
def least (w : IVec S512x256 32) : IVec S512 32 := multiReductionI .minsi [1] S512 w 2147483647#32 reduces_S512x256_S512 rfl

theorem ofBits_negInf : Ideal.ofBits .f32 0xFF800000#32 = ⊥ := by
  simp [Ideal.ofBits, Ideal.ieee]

theorem fold_max (d : Row) : Finset.univ.fold (FloatOps.maximumf (F := Ideal) (φ := .f32)) (⊥ : EReal) d = top d := rfl

theorem tops_apply (v : FVec Ideal S512x256 .f32) : tops v (ix1 r) = top (fun k => v (ix2 r k)) := by
  unfold tops
  refine (multiReduction_maximumf_eq_fold v _ _ _ _ _).trans ?_
  rw [Shape.Reduces.fold_fiber_r2_a1]
  have h : (FloatOps.ofBits .f32 0xFF800000#32 : Ideal .f32) = (⊥ : EReal) := ofBits_negInf
  rw [h]
  exact fold_max _

theorem least_apply (w : IVec S512x256 32) : least w (ix1 r) = Finset.univ.fold IntOp.minsi 2147483647#32 (fun k : Fin 256 => w (ix2 r k)) := by
  unfold least
  refine (multiReductionI_eq_fold _ w _ _ _ _).trans ?_
  rw [Shape.Reduces.fold_fiber_r2_a1]
  rfl

/-- A column of numbers along every row. -/
def wide {α : Type} (x : S512.Idx → α) : S512x256.Idx → α := broadcastTo S512x256 (shapeCast S512x1 x shapeCasts_S512_S512x1) broadcasts_S512x1_S512x256

theorem wide_apply {α : Type} (x : S512.Idx → α) : wide x (ix2 r k) = x (ix1 r) := by
  pointwise [wide]

/-- The rows drawn from the noisy logits. -/
def hot (v : FVec Ideal S512x256 .f32) : FVec Ideal S512x256 .f32 :=
  sitofp .f32 (extui 32 (cmpi .eq (wide (least (select (cmpf .oge v (wide (tops v))) cols (broadcast S512x256 256#32)))) cols) natLt_1_32)

theorem toInt_num (k : Fin 256) : (num k).toInt = k.val := by
  rw [BitVec.toInt_eq_toNat_of_lt (by rw [BitVec.toNat_ofNat]; omega), BitVec.toNat_ofNat]; omega

theorem toInt_minsi (a b : BitVec 32) : (IntOp.minsi a b).toInt = min a.toInt b.toInt := by
  unfold IntOp.minsi
  by_cases h : a.slt b
  · rw [if_pos h, min_eq_left]
    rw [BitVec.slt_iff_toInt_lt] at h
    exact h.le
  · rw [if_neg h, min_eq_right]
    rw [BitVec.slt_iff_toInt_lt] at h
    exact not_lt.mp h

/-- The least of the columns at which a row is greatest. -/
theorem least_first (v : Row) (p : Fin 256) (hp : First v p) :
    Finset.univ.fold IntOp.minsi 2147483647#32 (fun k : Fin 256 => if top v ≤ v k then num k else 256#32) = num p := by
  refine BitVec.eq_of_toInt_eq ?_
  have h := Finset.fold_hom (s := (Finset.univ : Finset (Fin 256))) (b := 2147483647#32) (f := fun k => if top v ≤ v k then num k else 256#32) (op := IntOp.minsi) (op' := min) (m := BitVec.toInt) toInt_minsi
  rw [← h, toInt_num]
  refine le_antisymm ?_ ?_
  · rw [Finset.fold_min_le]
    refine .inr ⟨p, Finset.mem_univ _, ?_⟩
    rw [if_pos hp.1, toInt_num]
  · rw [Finset.le_fold_min]
    refine ⟨?_, fun k _ => ?_⟩
    · have : (2147483647#32).toInt = 2147483647 := by decide
      rw [this]; omega
    · by_cases hk : top v ≤ v k
      · rw [if_pos hk, toInt_num]
        exact_mod_cast hp.2 k hk
      · rw [if_neg hk]
        have : (256#32).toInt = 256 := by decide
        rw [this]; omega

theorem select_oge (x y : EReal) (a b : BitVec 32) : Scalar.select (FloatOps.cmpf (F := Ideal) (φ := .f32) .oge x y) a b = if y ≤ x then a else b := by
  by_cases h : y ≤ x <;> simp [Scalar.select, Ideal.cmpf_def, Ideal.cmp, h]

theorem sitofp_one : FloatOps.sitofp (F := Ideal) .f32 (BitVec.setWidth 32 (BitVec.ofBool true)) = (1 : EReal) := by
  have h : (BitVec.setWidth 32 (BitVec.ofBool true)).toInt = 1 := by decide
  show (((BitVec.setWidth 32 (BitVec.ofBool true)).toInt : ℝ) : EReal) = 1
  rw [h]
  simp

theorem sitofp_zero : FloatOps.sitofp (F := Ideal) .f32 (BitVec.setWidth 32 (BitVec.ofBool false)) = (0 : EReal) := by
  have h : (BitVec.setWidth 32 (BitVec.ofBool false)).toInt = 0 := by decide
  show (((BitVec.setWidth 32 (BitVec.ofBool false)).toInt : ℝ) : EReal) = 0
  rw [h]
  simp

theorem hot_apply (v : FVec Ideal S512x256 .f32) (p : Fin 256) (hp : First (fun k => v (ix2 r k)) p) : hot v (ix2 r k) = if k = p then 1 else 0 := by
  have hl : least (select (cmpf .oge v (wide (tops v))) cols (broadcast S512x256 256#32)) (ix1 r) = num p := by
    rw [least_apply, ← least_first (fun k => v (ix2 r k)) p hp]
    refine congrArg (fun f => Finset.univ.fold IntOp.minsi 2147483647#32 f) (funext fun k => ?_)
    show Scalar.select (FloatOps.cmpf (F := Ideal) (φ := .f32) .oge (v (ix2 r k)) (wide (tops v) (ix2 r k))) (cols (ix2 r k)) 256#32 = _
    rw [wide_apply, tops_apply, cols_apply, select_oge]
  have hw := (wide_apply r k _).trans hl
  unfold hot
  generalize wide (least (select (cmpf .oge v (wide (tops v))) cols (broadcast S512x256 256#32))) = w at hw ⊢
  show FloatOps.sitofp (F := Ideal) .f32 (BitVec.setWidth 32 (IntOp.cmpi .eq (w (ix2 r k)) (cols (ix2 r k)))) = _
  rw [hw, cols_apply]
  by_cases h : k = p
  · subst h
    rw [if_pos rfl]
    show FloatOps.sitofp (F := Ideal) .f32 (BitVec.setWidth 32 (BitVec.ofBool (num k == num k))) = 1
    rw [beq_self_eq_true]
    exact sitofp_one
  · have hn : num p ≠ num k := fun e => h (by have := congrArg BitVec.toInt e; rw [toInt_num, toInt_num] at this; exact Fin.ext (by omega))
    rw [if_neg h]
    show FloatOps.sitofp (F := Ideal) .f32 (BitVec.setWidth 32 (BitVec.ofBool (num p == num k))) = 0
    rw [beq_false_of_ne hn]
    exact sitofp_zero

end Cert.Tile

end
-- ==== Proof.TileLogits.lean ====
/- A tile's noisy logits as the kernel computes them from the four cells of its transition matrix. -/
module

public import proofs.«01_k».proof.Proof.TileDraw

@[expose] public section

set_option maxRecDepth 16384

noncomputable section

namespace Cert.Tile

open Cert.KernelIdeal Cert.KernelIdeal.Gen Idealize.ShloMosaic Cert.Rows

variable (r : Fin 512) (k : Fin 256)

/-- The transition row of token `x` from the diagonal entry, the entry to the last column and the last row's last entry. -/
def chainRow (a l d : EReal) (x : Fin 256) : Row := fun c => if c = x then (if x = 255 then d else a) else if c = 255 then l else 0

/-- The same choice of logarithms, by words. -/
def chosen (a l d : EReal) (x : BitVec 32) (k : Fin 256) : EReal :=
  Scalar.select (IntOp.cmpi .eq (num k) x) (Scalar.select (IntOp.cmpi .eq x 255#32) (Ideal.log (d + eps)) (Ideal.log (a + eps)))
    (Scalar.select (IntOp.cmpi .eq (num k) 255#32) (Ideal.log (l + eps)) (Ideal.log eps))

theorem select_eq (j k : Fin 256) (a b : EReal) : Scalar.select (IntOp.cmpi .eq (num j) (num k)) a b = if j = k then a else b := by
  by_cases h : j = k
  · subst h
    simp [Scalar.select, IntOp.cmpi]
  · have hn : num j ≠ num k := fun e => h (by have := congrArg BitVec.toInt e; rw [toInt_num, toInt_num] at this; exact Fin.ext (by omega))
    rw [if_neg h]
    unfold IntOp.cmpi
    show Scalar.select (BitVec.ofBool (num j == num k)) a b = b
    rw [beq_false_of_ne hn]
    rfl

theorem chosen_eq (a l d : EReal) (x k : Fin 256) : chosen a l d (num x) k = Ideal.log (chainRow a l d x k + eps) := by
  have h255 : (255#32 : BitVec 32) = num 255 := rfl
  unfold chosen chainRow
  rw [h255, select_eq, select_eq, select_eq]
  split <;> split <;> simp

theorem pay5_apply (n : FVec Ideal S1x512x256 .f32) : k0_pay5 (F := Ideal) n (ix2 r k) = 0 - Ideal.log (min 1 (max eps (n (ix3 0 r k)))) := by
  pointwise [k0_pay5]
  rfl

theorem pay27_apply (n : FVec Ideal S1x512x256 .f32) : k0_pay27 (F := Ideal) n (ix2 r k) = 0 - Ideal.log (min 1 (max eps (n (ix3 0 r k)))) := by
  pointwise [k0_pay27]
  rfl

theorem pay26_apply (a l d : FVec Ideal S1x1 .f32) (x : IVec S1x1x512 32) :
    k0_pay26 (F := Ideal) cols a l d x (ix2 r k) = chosen (a (ix2 0 0)) (l (ix2 0 0)) (d (ix2 0 0)) (x (ix3 0 0 r)) k := by
  pointwise [k0_pay26]
  rfl

theorem pay6_apply (x : IVec S1x1x512 32) : k0_pay6 (F := Ideal) x (ix1 r) = x (ix3 0 0 r) := by
  pointwise [k0_pay6]

theorem pay4_apply (a l d : FVec Ideal S1x1 .f32) (x : IVec S512 32) :
    k0_pay4 (F := Ideal) x cols a l d (ix2 r k) = chosen (a (ix2 0 0)) (l (ix2 0 0)) (d (ix2 0 0)) (x (ix1 r)) k := by
  pointwise [k0_pay4]
  rfl

end Cert.Tile

end
-- ==== Proof.RefStages.lean ====
/- The reference's quantities as functions of the quantities they come from, and what each segment of its operations
   leaves. -/
module

public import proofs.«01_k».proof.Proof.RefWrites
public import Idealize.ShloMosaic.Lib.Pointwise

@[expose] public section

noncomputable section

namespace Cert.RefStages

open Cert.ReferenceIdeal Cert.ReferenceIdeal.Gen Idealize.ShloMosaic Idealize.ShloMosaic.TcCoe Idealize.SL.Sem Idealize.ShloMosaic.StableHlo Cert.RefRun

variable {F : FTy → Type} [FloatOps F]

/-- Row `(step − 1, token)` of a stack of matrices, at every token. -/
def pairRows (x0 : (⟨S100x256x256, .f32⟩ : BufTy).Contents (Elt F)) (x1 : (⟨S4, .i32⟩ : BufTy).Contents (Elt F)) (x2 : (⟨S4x2048, .i32⟩ : BufTy).Contents (Elt F)) : (⟨S4x2048x256, .f32⟩ : BufTy).Contents (Elt F) :=
  (((fun x i => Host.gather gather_S100x256x256_S4x2048x2_S4x2048x256_2_01_n_n_01_2_11256 x i) : (⟨S100x256x256, .f32⟩ : BufTy).Contents (Elt F) → (⟨S4x2048x2, .i32⟩ : BufTy).Contents (Elt F) → (⟨S4x2048x256, .f32⟩ : BufTy).Contents (Elt F)) x0 (((RefRun.sideBySide (F := F)) : (⟨S4x2048x1, .i32⟩ : BufTy).Contents (Elt F) → (⟨S4x2048x1, .i32⟩ : BufTy).Contents (Elt F) → (⟨S4x2048x2, .i32⟩ : BufTy).Contents (Elt F)) (((broadcastInDim S4x2048x1 ![0, 1] bcast_S4x2048_S4x2048x1_0_1) : (⟨S4x2048, .i32⟩ : BufTy).Contents (Elt F) → (⟨S4x2048x1, .i32⟩ : BufTy).Contents (Elt F)) (((broadcastInDim S4x2048 ![0, 1] bcast_S4x1_S4x2048_0_1) : (⟨S4x1, .i32⟩ : BufTy).Contents (Elt F) → (⟨S4x2048, .i32⟩ : BufTy).Contents (Elt F)) ((select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)) (((cmpi .slt) : (⟨S4x1, .i32⟩ : BufTy).Contents (Elt F) → (⟨S4x1, .i32⟩ : BufTy).Contents (Elt F) → (⟨S4x1, .i1⟩ : BufTy).Contents (Elt F)) (((broadcastInDim S4x1 ![0] bcast_S4_S4x1_0) : (⟨S4, .i32⟩ : BufTy).Contents (Elt F) → (⟨S4x1, .i32⟩ : BufTy).Contents (Elt F)) ((subi : (⟨S4, .i32⟩ : BufTy).Contents (Elt F) → (⟨S4, .i32⟩ : BufTy).Contents (Elt F) → (⟨S4, .i32⟩ : BufTy).Contents (Elt F)) x1 (((broadcastInDim S4 ![] bcast_S_S4) : (⟨S_, .i32⟩ : BufTy).Contents (Elt F) → (⟨S4, .i32⟩ : BufTy).Contents (Elt F)) ((constantI S_ 32 1#32) : (⟨S_, .i32⟩ : BufTy).Contents (Elt F))))) (((broadcastInDim S4x1 ![] bcast_S_S4x1) : (⟨S_, .i32⟩ : BufTy).Contents (Elt F) → (⟨S4x1, .i32⟩ : BufTy).Contents (Elt F)) ((constantI S_ 32 0#32) : (⟨S_, .i32⟩ : BufTy).Contents (Elt F)))) ((addi : (⟨S4x1, .i32⟩ : BufTy).Contents (Elt F) → (⟨S4x1, .i32⟩ : BufTy).Contents (Elt F) → (⟨S4x1, .i32⟩ : BufTy).Contents (Elt F)) (((broadcastInDim S4x1 ![0] bcast_S4_S4x1_0) : (⟨S4, .i32⟩ : BufTy).Contents (Elt F) → (⟨S4x1, .i32⟩ : BufTy).Contents (Elt F)) ((subi : (⟨S4, .i32⟩ : BufTy).Contents (Elt F) → (⟨S4, .i32⟩ : BufTy).Contents (Elt F) → (⟨S4, .i32⟩ : BufTy).Contents (Elt F)) x1 (((broadcastInDim S4 ![] bcast_S_S4) : (⟨S_, .i32⟩ : BufTy).Contents (Elt F) → (⟨S4, .i32⟩ : BufTy).Contents (Elt F)) ((constantI S_ 32 1#32) : (⟨S_, .i32⟩ : BufTy).Contents (Elt F))))) (((broadcastInDim S4x1 ![] bcast_S_S4x1) : (⟨S_, .i32⟩ : BufTy).Contents (Elt F) → (⟨S4x1, .i32⟩ : BufTy).Contents (Elt F)) ((constantI S_ 32 100#32) : (⟨S_, .i32⟩ : BufTy).Contents (Elt F)))) (((broadcastInDim S4x1 ![0] bcast_S4_S4x1_0) : (⟨S4, .i32⟩ : BufTy).Contents (Elt F) → (⟨S4x1, .i32⟩ : BufTy).Contents (Elt F)) ((subi : (⟨S4, .i32⟩ : BufTy).Contents (Elt F) → (⟨S4, .i32⟩ : BufTy).Contents (Elt F) → (⟨S4, .i32⟩ : BufTy).Contents (Elt F)) x1 (((broadcastInDim S4 ![] bcast_S_S4) : (⟨S_, .i32⟩ : BufTy).Contents (Elt F) → (⟨S4, .i32⟩ : BufTy).Contents (Elt F)) ((constantI S_ 32 1#32) : (⟨S_, .i32⟩ : BufTy).Contents (Elt F)))))))) (((broadcastInDim S4x2048x1 ![0, 1] bcast_S4x2048_S4x2048x1_0_1) : (⟨S4x2048, .i32⟩ : BufTy).Contents (Elt F) → (⟨S4x2048x1, .i32⟩ : BufTy).Contents (Elt F)) ((select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)) (((cmpi .slt) : (⟨S4x2048, .i32⟩ : BufTy).Contents (Elt F) → (⟨S4x2048, .i32⟩ : BufTy).Contents (Elt F) → (⟨S4x2048, .i1⟩ : BufTy).Contents (Elt F)) x2 (((broadcastInDim S4x2048 ![] bcast_S_S4x2048) : (⟨S_, .i32⟩ : BufTy).Contents (Elt F) → (⟨S4x2048, .i32⟩ : BufTy).Contents (Elt F)) ((constantI S_ 32 0#32) : (⟨S_, .i32⟩ : BufTy).Contents (Elt F)))) ((addi : (⟨S4x2048, .i32⟩ : BufTy).Contents (Elt F) → (⟨S4x2048, .i32⟩ : BufTy).Contents (Elt F) → (⟨S4x2048, .i32⟩ : BufTy).Contents (Elt F)) x2 (((broadcastInDim S4x2048 ![] bcast_S_S4x2048) : (⟨S_, .i32⟩ : BufTy).Contents (Elt F) → (⟨S4x2048, .i32⟩ : BufTy).Contents (Elt F)) ((constantI S_ 32 256#32) : (⟨S_, .i32⟩ : BufTy).Contents (Elt F)))) x2))))

/-- The logarithms of the transition row and the Gumbel noise, added. -/
def mixed (x0 : (⟨S4x2048x256, .f32⟩ : BufTy).Contents (Elt F)) (x1 : (⟨S4x2048x256, .f32⟩ : BufTy).Contents (Elt F)) : (⟨S4x2048x256, .f32⟩ : BufTy).Contents (Elt F) :=
  ((addf : (⟨S4x2048x256, .f32⟩ : BufTy).Contents (Elt F) → (⟨S4x2048x256, .f32⟩ : BufTy).Contents (Elt F) → (⟨S4x2048x256, .f32⟩ : BufTy).Contents (Elt F)) ((Host.log : (⟨S4x2048x256, .f32⟩ : BufTy).Contents (Elt F) → (⟨S4x2048x256, .f32⟩ : BufTy).Contents (Elt F)) ((addf : (⟨S4x2048x256, .f32⟩ : BufTy).Contents (Elt F) → (⟨S4x2048x256, .f32⟩ : BufTy).Contents (Elt F) → (⟨S4x2048x256, .f32⟩ : BufTy).Contents (Elt F)) x0 (((broadcastInDim S4x2048x256 ![] bcast_S_S4x2048x256) : (⟨S_, .f32⟩ : BufTy).Contents (Elt F) → (⟨S4x2048x256, .f32⟩ : BufTy).Contents (Elt F)) ((constant S_ .f32 0x358637BD#32) : (⟨S_, .f32⟩ : BufTy).Contents (Elt F))))) ((Host.negf : (⟨S4x2048x256, .f32⟩ : BufTy).Contents (Elt F) → (⟨S4x2048x256, .f32⟩ : BufTy).Contents (Elt F)) ((Host.log : (⟨S4x2048x256, .f32⟩ : BufTy).Contents (Elt F) → (⟨S4x2048x256, .f32⟩ : BufTy).Contents (Elt F)) ((Host.negf : (⟨S4x2048x256, .f32⟩ : BufTy).Contents (Elt F) → (⟨S4x2048x256, .f32⟩ : BufTy).Contents (Elt F)) ((Host.log : (⟨S4x2048x256, .f32⟩ : BufTy).Contents (Elt F) → (⟨S4x2048x256, .f32⟩ : BufTy).Contents (Elt F)) ((minimumf : (⟨S4x2048x256, .f32⟩ : BufTy).Contents (Elt F) → (⟨S4x2048x256, .f32⟩ : BufTy).Contents (Elt F) → (⟨S4x2048x256, .f32⟩ : BufTy).Contents (Elt F)) (((broadcastInDim S4x2048x256 ![] bcast_S_S4x2048x256) : (⟨S_, .f32⟩ : BufTy).Contents (Elt F) → (⟨S4x2048x256, .f32⟩ : BufTy).Contents (Elt F)) ((constant S_ .f32 0x3F800000#32) : (⟨S_, .f32⟩ : BufTy).Contents (Elt F))) ((maximumf : (⟨S4x2048x256, .f32⟩ : BufTy).Contents (Elt F) → (⟨S4x2048x256, .f32⟩ : BufTy).Contents (Elt F) → (⟨S4x2048x256, .f32⟩ : BufTy).Contents (Elt F)) (((broadcastInDim S4x2048x256 ![] bcast_S_S4x2048x256) : (⟨S_, .f32⟩ : BufTy).Contents (Elt F) → (⟨S4x2048x256, .f32⟩ : BufTy).Contents (Elt F)) ((constant S_ .f32 0x358637BD#32) : (⟨S_, .f32⟩ : BufTy).Contents (Elt F))) x1)))))))

/-- The greatest entry's place, first of equals. -/
def picked (x0 : (⟨S4x2048x256, .f32⟩ : BufTy).Contents (Elt F)) : (⟨S4x2048, .i32⟩ : BufTy).Contents (Elt F) :=
  (((fun x y u v j => (Host.argReduce reducer_argmax_f32_i32 x y u v reducesTo_S4x2048x256_S4x2048_d2 h_S_ j).2) : (⟨S4x2048x256, .f32⟩ : BufTy).Contents (Elt F) → (⟨S4x2048x256, .i32⟩ : BufTy).Contents (Elt F) → (⟨S_, .f32⟩ : BufTy).Contents (Elt F) → (⟨S_, .i32⟩ : BufTy).Contents (Elt F) → (⟨S4x2048, .i32⟩ : BufTy).Contents (Elt F)) x0 ((iotaInDim S4x2048x256 32 2) : (⟨S4x2048x256, .i32⟩ : BufTy).Contents (Elt F)) ((constant S_ .f32 0xFF800000#32) : (⟨S_, .f32⟩ : BufTy).Contents (Elt F)) ((constantI S_ 32 0#32) : (⟨S_, .i32⟩ : BufTy).Contents (Elt F)))

/-- The embedding row of every token. -/
def wordRows (x0 : (⟨S256x1024, .f32⟩ : BufTy).Contents (Elt F)) (x1 : (⟨S4x2048, .i32⟩ : BufTy).Contents (Elt F)) : (⟨S4x2048x1024, .f32⟩ : BufTy).Contents (Elt F) :=
  (((fun x i => Host.gather gather_S256x1024_S4x2048x1_S4x2048x1024_2_0_n_n_0_2_11024 x i) : (⟨S256x1024, .f32⟩ : BufTy).Contents (Elt F) → (⟨S4x2048x1, .i32⟩ : BufTy).Contents (Elt F) → (⟨S4x2048x1024, .f32⟩ : BufTy).Contents (Elt F)) x0 (((broadcastInDim S4x2048x1 ![0, 1] bcast_S4x2048_S4x2048x1_0_1) : (⟨S4x2048, .i32⟩ : BufTy).Contents (Elt F) → (⟨S4x2048x1, .i32⟩ : BufTy).Contents (Elt F)) ((select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)) (((cmpi .slt) : (⟨S4x2048, .i32⟩ : BufTy).Contents (Elt F) → (⟨S4x2048, .i32⟩ : BufTy).Contents (Elt F) → (⟨S4x2048, .i1⟩ : BufTy).Contents (Elt F)) x1 (((broadcastInDim S4x2048 ![] bcast_S_S4x2048) : (⟨S_, .i32⟩ : BufTy).Contents (Elt F) → (⟨S4x2048, .i32⟩ : BufTy).Contents (Elt F)) ((constantI S_ 32 0#32) : (⟨S_, .i32⟩ : BufTy).Contents (Elt F)))) ((addi : (⟨S4x2048, .i32⟩ : BufTy).Contents (Elt F) → (⟨S4x2048, .i32⟩ : BufTy).Contents (Elt F) → (⟨S4x2048, .i32⟩ : BufTy).Contents (Elt F)) x1 (((broadcastInDim S4x2048 ![] bcast_S_S4x2048) : (⟨S_, .i32⟩ : BufTy).Contents (Elt F) → (⟨S4x2048, .i32⟩ : BufTy).Contents (Elt F)) ((constantI S_ 32 256#32) : (⟨S_, .i32⟩ : BufTy).Contents (Elt F)))) x1)))

/-- The embedding row of every step. -/
def stepRows (x0 : (⟨S101x1024, .f32⟩ : BufTy).Contents (Elt F)) (x1 : (⟨S4, .i32⟩ : BufTy).Contents (Elt F)) : (⟨S4x1024, .f32⟩ : BufTy).Contents (Elt F) :=
  (((fun x i => Host.gather gather_S101x1024_S4x1_S4x1024_1_0_n_n_0_1_11024 x i) : (⟨S101x1024, .f32⟩ : BufTy).Contents (Elt F) → (⟨S4x1, .i32⟩ : BufTy).Contents (Elt F) → (⟨S4x1024, .f32⟩ : BufTy).Contents (Elt F)) x0 (((broadcastInDim S4x1 ![0] bcast_S4_S4x1_0) : (⟨S4, .i32⟩ : BufTy).Contents (Elt F) → (⟨S4x1, .i32⟩ : BufTy).Contents (Elt F)) ((select : (⟨S4, .i1⟩ : BufTy).Contents (Elt F) → (⟨S4, .i32⟩ : BufTy).Contents (Elt F) → (⟨S4, .i32⟩ : BufTy).Contents (Elt F) → (⟨S4, .i32⟩ : BufTy).Contents (Elt F)) (((cmpi .slt) : (⟨S4, .i32⟩ : BufTy).Contents (Elt F) → (⟨S4, .i32⟩ : BufTy).Contents (Elt F) → (⟨S4, .i1⟩ : BufTy).Contents (Elt F)) x1 (((broadcastInDim S4 ![] bcast_S_S4) : (⟨S_, .i32⟩ : BufTy).Contents (Elt F) → (⟨S4, .i32⟩ : BufTy).Contents (Elt F)) ((constantI S_ 32 0#32) : (⟨S_, .i32⟩ : BufTy).Contents (Elt F)))) ((addi : (⟨S4, .i32⟩ : BufTy).Contents (Elt F) → (⟨S4, .i32⟩ : BufTy).Contents (Elt F) → (⟨S4, .i32⟩ : BufTy).Contents (Elt F)) x1 (((broadcastInDim S4 ![] bcast_S_S4) : (⟨S_, .i32⟩ : BufTy).Contents (Elt F) → (⟨S4, .i32⟩ : BufTy).Contents (Elt F)) ((constantI S_ 32 101#32) : (⟨S_, .i32⟩ : BufTy).Contents (Elt F)))) x1)))

/-- The first layer's product. -/
def hidden (x0 : (⟨S4x2048x1024, .f32⟩ : BufTy).Contents (Elt F)) (x1 : (⟨S4x1024, .f32⟩ : BufTy).Contents (Elt F)) (x2 : (⟨S1024x1024, .f32⟩ : BufTy).Contents (Elt F)) : (⟨S4x2048x1024, .f32⟩ : BufTy).Contents (Elt F) :=
  (((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)) ((addf : (⟨S4x2048x1024, .f32⟩ : BufTy).Contents (Elt F) → (⟨S4x2048x1024, .f32⟩ : BufTy).Contents (Elt F) → (⟨S4x2048x1024, .f32⟩ : BufTy).Contents (Elt F)) x0 (((broadcastInDim S4x2048x1024 ![0, 1, 2] bcast_S4x1x1024_S4x2048x1024_0_1_2) : (⟨S4x1x1024, .f32⟩ : BufTy).Contents (Elt F) → (⟨S4x2048x1024, .f32⟩ : BufTy).Contents (Elt F)) (((broadcastInDim S4x1x1024 ![0, 2] bcast_S4x1024_S4x1x1024_0_2) : (⟨S4x1024, .f32⟩ : BufTy).Contents (Elt F) → (⟨S4x1x1024, .f32⟩ : BufTy).Contents (Elt F)) x1))) x2)

/-- The first bias at every token. -/
def biasAll (x0 : (⟨S1024, .f32⟩ : BufTy).Contents (Elt F)) : (⟨S4x2048x1024, .f32⟩ : BufTy).Contents (Elt F) :=
  (((broadcastInDim S4x2048x1024 ![0, 1, 2] bcast_S1x1x1024_S4x2048x1024_0_1_2) : (⟨S1x1x1024, .f32⟩ : BufTy).Contents (Elt F) → (⟨S4x2048x1024, .f32⟩ : BufTy).Contents (Elt F)) (((broadcastInDim S1x1x1024 ![2] bcast_S1024_S1x1x1024_2) : (⟨S1024, .f32⟩ : BufTy).Contents (Elt F) → (⟨S1x1x1024, .f32⟩ : BufTy).Contents (Elt F)) x0))

/-- Bias, the positive part, and the second layer. -/
def outLayer (x0 : (⟨S4x2048x1024, .f32⟩ : BufTy).Contents (Elt F)) (x1 : (⟨S4x2048x1024, .f32⟩ : BufTy).Contents (Elt F)) (x2 : (⟨S1024x256, .f32⟩ : BufTy).Contents (Elt F)) (x3 : (⟨S256, .f32⟩ : BufTy).Contents (Elt F)) : (⟨S4x2048x256, .f32⟩ : BufTy).Contents (Elt F) :=
  ((addf : (⟨S4x2048x256, .f32⟩ : BufTy).Contents (Elt F) → (⟨S4x2048x256, .f32⟩ : BufTy).Contents (Elt F) → (⟨S4x2048x256, .f32⟩ : BufTy).Contents (Elt F)) (((fun l r => Host.dotGeneral dot_S4x2048x1024_S1024x256_S4x2048x256_2_0_01_1_n_n none l r) : (⟨S4x2048x1024, .f32⟩ : BufTy).Contents (Elt F) → (⟨S1024x256, .f32⟩ : BufTy).Contents (Elt F) → (⟨S4x2048x256, .f32⟩ : BufTy).Contents (Elt F)) ((maximumf : (⟨S4x2048x1024, .f32⟩ : BufTy).Contents (Elt F) → (⟨S4x2048x1024, .f32⟩ : BufTy).Contents (Elt F) → (⟨S4x2048x1024, .f32⟩ : BufTy).Contents (Elt F)) ((addf : (⟨S4x2048x1024, .f32⟩ : BufTy).Contents (Elt F) → (⟨S4x2048x1024, .f32⟩ : BufTy).Contents (Elt F) → (⟨S4x2048x1024, .f32⟩ : BufTy).Contents (Elt F)) x0 x1) (((broadcastInDim S4x2048x1024 ![] bcast_S_S4x2048x1024) : (⟨S_, .f32⟩ : BufTy).Contents (Elt F) → (⟨S4x2048x1024, .f32⟩ : BufTy).Contents (Elt F)) ((constant S_ .f32 0x00000000#32) : (⟨S_, .f32⟩ : BufTy).Contents (Elt F)))) x2) (((broadcastInDim S4x2048x256 ![0, 1, 2] bcast_S1x1x256_S4x2048x256_0_1_2) : (⟨S1x1x256, .f32⟩ : BufTy).Contents (Elt F) → (⟨S4x2048x256, .f32⟩ : BufTy).Contents (Elt F)) (((broadcastInDim S1x1x256 ![2] bcast_S256_S1x1x256_2) : (⟨S256, .f32⟩ : BufTy).Contents (Elt F) → (⟨S1x1x256, .f32⟩ : BufTy).Contents (Elt F)) x3)))

/-- The logarithm of the softmax of every row. -/
def lsmAll (x0 : (⟨S4x2048x256, .f32⟩ : BufTy).Contents (Elt F)) : (⟨S4x2048x256, .f32⟩ : BufTy).Contents (Elt F) :=
  ((subf : (⟨S4x2048x256, .f32⟩ : BufTy).Contents (Elt F) → (⟨S4x2048x256, .f32⟩ : BufTy).Contents (Elt F) → (⟨S4x2048x256, .f32⟩ : BufTy).Contents (Elt F)) ((subf : (⟨S4x2048x256, .f32⟩ : BufTy).Contents (Elt F) → (⟨S4x2048x256, .f32⟩ : BufTy).Contents (Elt F) → (⟨S4x2048x256, .f32⟩ : BufTy).Contents (Elt F)) x0 (((broadcastInDim S4x2048x256 ![0, 1, 2] bcast_S4x2048x1_S4x2048x256_0_1_2) : (⟨S4x2048x1, .f32⟩ : BufTy).Contents (Elt F) → (⟨S4x2048x256, .f32⟩ : BufTy).Contents (Elt F)) (((broadcastInDim S4x2048x1 ![0, 1] bcast_S4x2048_S4x2048x1_0_1) : (⟨S4x2048, .f32⟩ : BufTy).Contents (Elt F) → (⟨S4x2048x1, .f32⟩ : BufTy).Contents (Elt F)) ((maximumf : (⟨S4x2048, .f32⟩ : BufTy).Contents (Elt F) → (⟨S4x2048, .f32⟩ : BufTy).Contents (Elt F) → (⟨S4x2048, .f32⟩ : BufTy).Contents (Elt F)) (((broadcastInDim S4x2048 ![] bcast_S_S4x2048) : (⟨S_, .f32⟩ : BufTy).Contents (Elt F) → (⟨S4x2048, .f32⟩ : BufTy).Contents (Elt F)) ((constant S_ .f32 0xFF800000#32) : (⟨S_, .f32⟩ : BufTy).Contents (Elt F))) (((fun x v => Host.reduce FloatOps.maximumf x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)) x0 ((constant S_ .f32 0xFF800000#32) : (⟨S_, .f32⟩ : BufTy).Contents (Elt F))))))) (((broadcastInDim S4x2048x256 ![0, 1, 2] bcast_S4x2048x1_S4x2048x256_0_1_2) : (⟨S4x2048x1, .f32⟩ : BufTy).Contents (Elt F) → (⟨S4x2048x256, .f32⟩ : BufTy).Contents (Elt F)) ((Host.log : (⟨S4x2048x1, .f32⟩ : BufTy).Contents (Elt F) → (⟨S4x2048x1, .f32⟩ : BufTy).Contents (Elt F)) (((broadcastInDim S4x2048x1 ![0, 1] bcast_S4x2048_S4x2048x1_0_1) : (⟨S4x2048, .f32⟩ : BufTy).Contents (Elt F) → (⟨S4x2048x1, .f32⟩ : BufTy).Contents (Elt F)) (((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)) ((Host.exp : (⟨S4x2048x256, .f32⟩ : BufTy).Contents (Elt F) → (⟨S4x2048x256, .f32⟩ : BufTy).Contents (Elt F)) ((subf : (⟨S4x2048x256, .f32⟩ : BufTy).Contents (Elt F) → (⟨S4x2048x256, .f32⟩ : BufTy).Contents (Elt F) → (⟨S4x2048x256, .f32⟩ : BufTy).Contents (Elt F)) x0 (((broadcastInDim S4x2048x256 ![0, 1, 2] bcast_S4x2048x1_S4x2048x256_0_1_2) : (⟨S4x2048x1, .f32⟩ : BufTy).Contents (Elt F) → (⟨S4x2048x256, .f32⟩ : BufTy).Contents (Elt F)) (((broadcastInDim S4x2048x1 ![0, 1] bcast_S4x2048_S4x2048x1_0_1) : (⟨S4x2048, .f32⟩ : BufTy).Contents (Elt F) → (⟨S4x2048x1, .f32⟩ : BufTy).Contents (Elt F)) ((maximumf : (⟨S4x2048, .f32⟩ : BufTy).Contents (Elt F) → (⟨S4x2048, .f32⟩ : BufTy).Contents (Elt F) → (⟨S4x2048, .f32⟩ : BufTy).Contents (Elt F)) (((broadcastInDim S4x2048 ![] bcast_S_S4x2048) : (⟨S_, .f32⟩ : BufTy).Contents (Elt F) → (⟨S4x2048, .f32⟩ : BufTy).Contents (Elt F)) ((constant S_ .f32 0xFF800000#32) : (⟨S_, .f32⟩ : BufTy).Contents (Elt F))) (((fun x v => Host.reduce FloatOps.maximumf x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)) x0 ((constant S_ .f32 0xFF800000#32) : (⟨S_, .f32⟩ : BufTy).Contents (Elt F)))))))) ((constant S_ .f32 0x00000000#32) : (⟨S_, .f32⟩ : BufTy).Contents (Elt F)))))))

/-- The entry of each row that its token names. -/
def tokenEntry (x0 : (⟨S4x2048, .i32⟩ : BufTy).Contents (Elt F)) (x1 : (⟨S4x2048x256, .f32⟩ : BufTy).Contents (Elt F)) : (⟨S4x2048x1, .f32⟩ : BufTy).Contents (Elt F) :=
  ((select : (⟨S4x2048x1, .i1⟩ : BufTy).Contents (Elt F) → (⟨S4x2048x1, .f32⟩ : BufTy).Contents (Elt F) → (⟨S4x2048x1, .f32⟩ : BufTy).Contents (Elt F) → (⟨S4x2048x1, .f32⟩ : BufTy).Contents (Elt F)) (((fun x v => Host.reduce IntOp.andi x v reducesTo_S4x2048x1x1_S4x2048x1_d3 h_S_) : (⟨S4x2048x1x1, .i1⟩ : BufTy).Contents (Elt F) → (⟨S_, .i1⟩ : BufTy).Contents (Elt F) → (⟨S4x2048x1, .i1⟩ : BufTy).Contents (Elt F)) ((andi : (⟨S4x2048x1x1, .i1⟩ : BufTy).Contents (Elt F) → (⟨S4x2048x1x1, .i1⟩ : BufTy).Contents (Elt F) → (⟨S4x2048x1x1, .i1⟩ : BufTy).Contents (Elt F)) (((cmpi .sge) : (⟨S4x2048x1x1, .i32⟩ : BufTy).Contents (Elt F) → (⟨S4x2048x1x1, .i32⟩ : BufTy).Contents (Elt F) → (⟨S4x2048x1x1, .i1⟩ : BufTy).Contents (Elt F)) (shapeCast S4x2048x1x1 ((select : (⟨S4x2048x1, .i1⟩ : BufTy).Contents (Elt F) → (⟨S4x2048x1, .i32⟩ : BufTy).Contents (Elt F) → (⟨S4x2048x1, .i32⟩ : BufTy).Contents (Elt F) → (⟨S4x2048x1, .i32⟩ : BufTy).Contents (Elt F)) (((cmpi .slt) : (⟨S4x2048x1, .i32⟩ : BufTy).Contents (Elt F) → (⟨S4x2048x1, .i32⟩ : BufTy).Contents (Elt F) → (⟨S4x2048x1, .i1⟩ : BufTy).Contents (Elt F)) (((broadcastInDim S4x2048x1 ![0, 1] bcast_S4x2048_S4x2048x1_0_1) : (⟨S4x2048, .i32⟩ : BufTy).Contents (Elt F) → (⟨S4x2048x1, .i32⟩ : BufTy).Contents (Elt F)) x0) (((broadcastInDim S4x2048x1 ![] bcast_S_S4x2048x1) : (⟨S_, .i32⟩ : BufTy).Contents (Elt F) → (⟨S4x2048x1, .i32⟩ : BufTy).Contents (Elt F)) ((constantI S_ 32 0#32) : (⟨S_, .i32⟩ : BufTy).Contents (Elt F)))) ((addi : (⟨S4x2048x1, .i32⟩ : BufTy).Contents (Elt F) → (⟨S4x2048x1, .i32⟩ : BufTy).Contents (Elt F) → (⟨S4x2048x1, .i32⟩ : BufTy).Contents (Elt F)) (((broadcastInDim S4x2048x1 ![0, 1] bcast_S4x2048_S4x2048x1_0_1) : (⟨S4x2048, .i32⟩ : BufTy).Contents (Elt F) → (⟨S4x2048x1, .i32⟩ : BufTy).Contents (Elt F)) x0) (((broadcastInDim S4x2048x1 ![] bcast_S_S4x2048x1) : (⟨S_, .i32⟩ : BufTy).Contents (Elt F) → (⟨S4x2048x1, .i32⟩ : BufTy).Contents (Elt F)) ((constantI S_ 32 256#32) : (⟨S_, .i32⟩ : BufTy).Contents (Elt F)))) (((broadcastInDim S4x2048x1 ![0, 1] bcast_S4x2048_S4x2048x1_0_1) : (⟨S4x2048, .i32⟩ : BufTy).Contents (Elt F) → (⟨S4x2048x1, .i32⟩ : BufTy).Contents (Elt F)) x0)) shapeCasts_S4x2048x1_S4x2048x1x1 : (⟨S4x2048x1x1, .i32⟩ : BufTy).Contents (Elt F)) (((broadcastInDim S4x2048x1x1 ![] bcast_S_S4x2048x1x1) : (⟨S_, .i32⟩ : BufTy).Contents (Elt F) → (⟨S4x2048x1x1, .i32⟩ : BufTy).Contents (Elt F)) ((constantI S_ 32 0#32) : (⟨S_, .i32⟩ : BufTy).Contents (Elt F)))) (((cmpi .sle) : (⟨S4x2048x1x1, .i32⟩ : BufTy).Contents (Elt F) → (⟨S4x2048x1x1, .i32⟩ : BufTy).Contents (Elt F) → (⟨S4x2048x1x1, .i1⟩ : BufTy).Contents (Elt F)) (shapeCast S4x2048x1x1 ((select : (⟨S4x2048x1, .i1⟩ : BufTy).Contents (Elt F) → (⟨S4x2048x1, .i32⟩ : BufTy).Contents (Elt F) → (⟨S4x2048x1, .i32⟩ : BufTy).Contents (Elt F) → (⟨S4x2048x1, .i32⟩ : BufTy).Contents (Elt F)) (((cmpi .slt) : (⟨S4x2048x1, .i32⟩ : BufTy).Contents (Elt F) → (⟨S4x2048x1, .i32⟩ : BufTy).Contents (Elt F) → (⟨S4x2048x1, .i1⟩ : BufTy).Contents (Elt F)) (((broadcastInDim S4x2048x1 ![0, 1] bcast_S4x2048_S4x2048x1_0_1) : (⟨S4x2048, .i32⟩ : BufTy).Contents (Elt F) → (⟨S4x2048x1, .i32⟩ : BufTy).Contents (Elt F)) x0) (((broadcastInDim S4x2048x1 ![] bcast_S_S4x2048x1) : (⟨S_, .i32⟩ : BufTy).Contents (Elt F) → (⟨S4x2048x1, .i32⟩ : BufTy).Contents (Elt F)) ((constantI S_ 32 0#32) : (⟨S_, .i32⟩ : BufTy).Contents (Elt F)))) ((addi : (⟨S4x2048x1, .i32⟩ : BufTy).Contents (Elt F) → (⟨S4x2048x1, .i32⟩ : BufTy).Contents (Elt F) → (⟨S4x2048x1, .i32⟩ : BufTy).Contents (Elt F)) (((broadcastInDim S4x2048x1 ![0, 1] bcast_S4x2048_S4x2048x1_0_1) : (⟨S4x2048, .i32⟩ : BufTy).Contents (Elt F) → (⟨S4x2048x1, .i32⟩ : BufTy).Contents (Elt F)) x0) (((broadcastInDim S4x2048x1 ![] bcast_S_S4x2048x1) : (⟨S_, .i32⟩ : BufTy).Contents (Elt F) → (⟨S4x2048x1, .i32⟩ : BufTy).Contents (Elt F)) ((constantI S_ 32 256#32) : (⟨S_, .i32⟩ : BufTy).Contents (Elt F)))) (((broadcastInDim S4x2048x1 ![0, 1] bcast_S4x2048_S4x2048x1_0_1) : (⟨S4x2048, .i32⟩ : BufTy).Contents (Elt F) → (⟨S4x2048x1, .i32⟩ : BufTy).Contents (Elt F)) x0)) shapeCasts_S4x2048x1_S4x2048x1x1 : (⟨S4x2048x1x1, .i32⟩ : BufTy).Contents (Elt F)) (((broadcastInDim S4x2048x1x1 ![0, 1, 2, 3] bcast_S1x1x1x1_S4x2048x1x1_0_1_2_3) : (⟨S1x1x1x1, .i32⟩ : BufTy).Contents (Elt F) → (⟨S4x2048x1x1, .i32⟩ : BufTy).Contents (Elt F)) (((broadcastInDim S1x1x1x1 ![3] bcast_S1_S1x1x1x1_3) : (⟨S1, .i32⟩ : BufTy).Contents (Elt F) → (⟨S1x1x1x1, .i32⟩ : BufTy).Contents (Elt F)) ((constantI S1 32 255#32) : (⟨S1, .i32⟩ : BufTy).Contents (Elt F)))))) ((constantI S_ 1 1#1) : (⟨S_, .i1⟩ : BufTy).Contents (Elt F))) (((fun x i => Host.gather gather_S4x2048x256_S4x2048x1x1_S4x2048x1_n_2_01_01_2_3_111 x i) : (⟨S4x2048x256, .f32⟩ : BufTy).Contents (Elt F) → (⟨S4x2048x1x1, .i32⟩ : BufTy).Contents (Elt F) → (⟨S4x2048x1, .f32⟩ : BufTy).Contents (Elt F)) x1 (shapeCast S4x2048x1x1 ((select : (⟨S4x2048x1, .i1⟩ : BufTy).Contents (Elt F) → (⟨S4x2048x1, .i32⟩ : BufTy).Contents (Elt F) → (⟨S4x2048x1, .i32⟩ : BufTy).Contents (Elt F) → (⟨S4x2048x1, .i32⟩ : BufTy).Contents (Elt F)) (((cmpi .slt) : (⟨S4x2048x1, .i32⟩ : BufTy).Contents (Elt F) → (⟨S4x2048x1, .i32⟩ : BufTy).Contents (Elt F) → (⟨S4x2048x1, .i1⟩ : BufTy).Contents (Elt F)) (((broadcastInDim S4x2048x1 ![0, 1] bcast_S4x2048_S4x2048x1_0_1) : (⟨S4x2048, .i32⟩ : BufTy).Contents (Elt F) → (⟨S4x2048x1, .i32⟩ : BufTy).Contents (Elt F)) x0) (((broadcastInDim S4x2048x1 ![] bcast_S_S4x2048x1) : (⟨S_, .i32⟩ : BufTy).Contents (Elt F) → (⟨S4x2048x1, .i32⟩ : BufTy).Contents (Elt F)) ((constantI S_ 32 0#32) : (⟨S_, .i32⟩ : BufTy).Contents (Elt F)))) ((addi : (⟨S4x2048x1, .i32⟩ : BufTy).Contents (Elt F) → (⟨S4x2048x1, .i32⟩ : BufTy).Contents (Elt F) → (⟨S4x2048x1, .i32⟩ : BufTy).Contents (Elt F)) (((broadcastInDim S4x2048x1 ![0, 1] bcast_S4x2048_S4x2048x1_0_1) : (⟨S4x2048, .i32⟩ : BufTy).Contents (Elt F) → (⟨S4x2048x1, .i32⟩ : BufTy).Contents (Elt F)) x0) (((broadcastInDim S4x2048x1 ![] bcast_S_S4x2048x1) : (⟨S_, .i32⟩ : BufTy).Contents (Elt F) → (⟨S4x2048x1, .i32⟩ : BufTy).Contents (Elt F)) ((constantI S_ 32 256#32) : (⟨S_, .i32⟩ : BufTy).Contents (Elt F)))) (((broadcastInDim S4x2048x1 ![0, 1] bcast_S4x2048_S4x2048x1_0_1) : (⟨S4x2048, .i32⟩ : BufTy).Contents (Elt F) → (⟨S4x2048x1, .i32⟩ : BufTy).Contents (Elt F)) x0)) shapeCasts_S4x2048x1_S4x2048x1x1 : (⟨S4x2048x1x1, .i32⟩ : BufTy).Contents (Elt F))) (((broadcastInDim S4x2048x1 ![] bcast_S_S4x2048x1) : (⟨S_, .f32⟩ : BufTy).Contents (Elt F) → (⟨S4x2048x1, .f32⟩ : BufTy).Contents (Elt F)) ((constant S_ .f32 0x7FC00000#32) : (⟨S_, .f32⟩ : BufTy).Contents (Elt F))))

/-- Minus the mean of a column. -/
def negMean (x0 : (⟨S4x2048x1, .f32⟩ : BufTy).Contents (Elt F)) : (⟨S_, .f32⟩ : BufTy).Contents (Elt F) :=
  ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S4x2048x1_S_d0_1_2 h_S_) : (⟨S4x2048x1, .f32⟩ : BufTy).Contents (Elt F) → (⟨S_, .f32⟩ : BufTy).Contents (Elt F) → (⟨S_, .f32⟩ : BufTy).Contents (Elt F)) x0 ((constant S_ .f32 0x00000000#32) : (⟨S_, .f32⟩ : BufTy).Contents (Elt F))) ((constant S_ .f32 0x46000000#32) : (⟨S_, .f32⟩ : BufTy).Contents (Elt F))))

set_option maxRecDepth 65536 in
set_option maxHeartbeats 1200000 in
theorem v17_eq (V : Valuation τ sig (Elt F)) :
    after seg0 V (Proc.devRef .tc main_v17) = pairRows (V (Proc.devRef .tc main_arg4)) (V (Proc.devRef .tc main_arg1)) (V (Proc.devRef .tc main_arg0)) := by
  after_results_simp
  rfl

set_option maxRecDepth 65536 in
set_option maxHeartbeats 1200000 in
theorem v26_eq (V : Valuation τ sig (Elt F)) :
    after seg1 V (Proc.devRef .tc main_v26) = mixed (V (Proc.devRef .tc main_v17)) (V (Proc.devRef .tc main_arg2)) := by
  after_results_simp
  rfl

set_option maxRecDepth 65536 in
set_option maxHeartbeats 1200000 in
theorem v27_eq (V : Valuation τ sig (Elt F)) :
    after seg2 V (Proc.devRef .tc main_v27) = picked (V (Proc.devRef .tc main_v26)) := by
  after_results_simp
  rfl

set_option maxRecDepth 65536 in
set_option maxHeartbeats 1200000 in
theorem v45_eq (V : Valuation τ sig (Elt F)) :
    after seg3 V (Proc.devRef .tc main_v45) = hidden (wordRows (V (Proc.devRef .tc main_arg5)) (V (Proc.devRef .tc main_v27))) (stepRows (V (Proc.devRef .tc main_arg6)) (V (Proc.devRef .tc main_arg1))) (V (Proc.devRef .tc main_arg7)) := by
  after_results_simp
  rfl

set_option maxRecDepth 65536 in
set_option maxHeartbeats 1200000 in
theorem v47_eq (V : Valuation τ sig (Elt F)) :
    after seg3 V (Proc.devRef .tc main_v47) = biasAll (V (Proc.devRef .tc main_arg8)) := by
  after_results_simp
  rfl

set_option maxRecDepth 65536 in
set_option maxHeartbeats 1200000 in
theorem v53_eq (V : Valuation τ sig (Elt F)) :
    after seg4 V (Proc.devRef .tc main_v53) = outLayer (V (Proc.devRef .tc main_v45)) (V (Proc.devRef .tc main_v47)) (V (Proc.devRef .tc main_arg9)) (V (Proc.devRef .tc main_arg10)) := by
  after_results_simp
  rfl

set_option maxRecDepth 65536 in
set_option maxHeartbeats 1200000 in
theorem v59_eq (V : Valuation τ sig (Elt F)) :
    after seg5 V (Proc.devRef .tc main_v59) = negMean (tokenEntry (V (Proc.devRef .tc main_arg0)) (lsmAll (V (Proc.devRef .tc main_v53)))) := by
  after_results_simp
  simp -implicitDefEqProofs only [TRef.ofBuf_toBuf, TRef.toBuf, TRef.ofBuf, cast_cast, cast_eq]
  rfl

end Cert.RefStages

end
-- ==== Proof.RefValue.lean ====
/- What the reference's result is, as a function of its arguments. -/
module

public import proofs.«01_k».proof.Proof.RefStages

@[expose] public section

noncomputable section

namespace Cert.RefValue

open Cert.ReferenceIdeal Cert.ReferenceIdeal.Gen Idealize.ShloMosaic Idealize.ShloMosaic.TcCoe Idealize.SL.Sem Idealize.ShloMosaic.StableHlo Cert.RefRun Cert.RefStages

variable {F : FTy → Type} [FloatOps F]

/-- The corrupted token at every place. -/
def drawn (x : IVec S4x2048 32) (t : IVec S4 32) (n : FVec F S4x2048x256 .f32) (q : FVec F S100x256x256 .f32) : IVec S4x2048 32 :=
  picked (F := F) (mixed (pairRows q t x) n)

/-- The model's logits. -/
def guess (y : IVec S4x2048 32) (t : IVec S4 32) (E : FVec F S256x1024 .f32) (T : FVec F S101x1024 .f32) (W1 : FVec F S1024x1024 .f32) (b1 : FVec F S1024 .f32)
    (W2 : FVec F S1024x256 .f32) (b2 : FVec F S256 .f32) : FVec F S4x2048x256 .f32 :=
  outLayer (hidden (wordRows E y) (stepRows T t) W1) (biasAll b1) W2 b2

variable (V : Valuation τ sig (Elt F))

/-- The corrupted tokens of a memory. -/
def drawnOf : IVec S4x2048 32 :=
  drawn (F := F) (V (Proc.devRef .tc main_arg0)) (V (Proc.devRef .tc main_arg1)) (V (Proc.devRef .tc main_arg2)) (V (Proc.devRef .tc main_arg4))

/-- The model's logits of a memory. -/
def guessOf : FVec F S4x2048x256 .f32 :=
  guess (drawnOf V) (V (Proc.devRef .tc main_arg1)) (V (Proc.devRef .tc main_arg5)) (V (Proc.devRef .tc main_arg6)) (V (Proc.devRef .tc main_arg7)) (V (Proc.devRef .tc main_arg8))
    (V (Proc.devRef .tc main_arg9)) (V (Proc.devRef .tc main_arg10))

/-- The cross entropy of a memory. -/
def ceOf : FVec F S_ .f32 := negMean (tokenEntry (V (Proc.devRef .tc main_arg0)) (lsmAll (guessOf V)))

/-- The arguments. -/
def args : List (Ref sig .tc) := [main_arg0, main_arg1, main_arg2, main_arg3, main_arg4, main_arg5, main_arg6, main_arg7, main_arg8, main_arg9, main_arg10]

set_option maxHeartbeats 2000000 in
theorem result_eq : after ops V (Proc.devRef .tc main_v59) = ceOf V := by
  rw [after_ops]
  have a0 : ∀ r ∈ args, V (Proc.devRef .tc r) = V (Proc.devRef .tc r) := fun _ _ => rfl
  obtain ⟨V1, h1⟩ : ∃ W, W = after seg0 V := ⟨_, rfl⟩
  rw [← h1]
  have a1 : ∀ r ∈ args, V1 (Proc.devRef .tc r) = V (Proc.devRef .tc r) := fun r hr => by
    rw [h1, keep0 _ r (by revert r; decide)]; try exact a0 r hr
  have ev17_1 : V1 (Proc.devRef .tc main_v17) = pairRows (V (Proc.devRef .tc main_arg4)) (V (Proc.devRef .tc main_arg1)) (V (Proc.devRef .tc main_arg0)) := by rw [h1, v17_eq] <;> rfl
  obtain ⟨V2, h2⟩ : ∃ W, W = after seg1 V1 := ⟨_, rfl⟩
  rw [← h2]
  have a2 : ∀ r ∈ args, V2 (Proc.devRef .tc r) = V (Proc.devRef .tc r) := fun r hr => by
    rw [h2, keep1 _ r (by revert r; decide)]; try exact a1 r hr
  have ev26_2 : V2 (Proc.devRef .tc main_v26) = mixed (pairRows (V (Proc.devRef .tc main_arg4)) (V (Proc.devRef .tc main_arg1)) (V (Proc.devRef .tc main_arg0))) (V (Proc.devRef .tc main_arg2)) := by rw [h2, v26_eq, ev17_1, a1 main_arg2 (by decide)] <;> rfl
  obtain ⟨V3, h3⟩ : ∃ W, W = after seg2 V2 := ⟨_, rfl⟩
  rw [← h3]
  have a3 : ∀ r ∈ args, V3 (Proc.devRef .tc r) = V (Proc.devRef .tc r) := fun r hr => by
    rw [h3, keep2 _ r (by revert r; decide)]; try exact a2 r hr
  have ev27_3 : V3 (Proc.devRef .tc main_v27) = drawnOf V := by rw [h3, v27_eq, ev26_2] <;> rfl
  obtain ⟨V4, h4⟩ : ∃ W, W = after seg3 V3 := ⟨_, rfl⟩
  rw [← h4]
  have a4 : ∀ r ∈ args, V4 (Proc.devRef .tc r) = V (Proc.devRef .tc r) := fun r hr => by
    rw [h4, keep3 _ r (by revert r; decide)]; try exact a3 r hr
  have ev45_4 : V4 (Proc.devRef .tc main_v45) = hidden (wordRows (V (Proc.devRef .tc main_arg5)) (drawnOf V)) (stepRows (V (Proc.devRef .tc main_arg6)) (V (Proc.devRef .tc main_arg1))) (V (Proc.devRef .tc main_arg7)) := by rw [h4, v45_eq, ev27_3, a3 main_arg5 (by decide), a3 main_arg6 (by decide), a3 main_arg1 (by decide), a3 main_arg7 (by decide)] <;> rfl
  have ev47_4 : V4 (Proc.devRef .tc main_v47) = biasAll (V (Proc.devRef .tc main_arg8)) := by rw [h4, v47_eq, a3 main_arg8 (by decide)] <;> rfl
  obtain ⟨V5, h5⟩ : ∃ W, W = after seg4 V4 := ⟨_, rfl⟩
  rw [← h5]
  have a5 : ∀ r ∈ args, V5 (Proc.devRef .tc r) = V (Proc.devRef .tc r) := fun r hr => by
    rw [h5, keep4 _ r (by revert r; decide)]; try exact a4 r hr
  have ev53_5 : V5 (Proc.devRef .tc main_v53) = guessOf V := by rw [h5, v53_eq, ev45_4, ev47_4, a4 main_arg9 (by decide), a4 main_arg10 (by decide)] <;> rfl
  obtain ⟨V6, h6⟩ : ∃ W, W = after seg5 V5 := ⟨_, rfl⟩
  rw [← h6]
  have a6 : ∀ r ∈ args, V6 (Proc.devRef .tc r) = V (Proc.devRef .tc r) := fun r hr => by
    rw [h6, keep5 _ r (by revert r; decide)]; try exact a5 r hr
  have ev59_6 : V6 (Proc.devRef .tc main_v59) = ceOf V := by rw [h6, v59_eq, ev53_5, a5 main_arg0 (by decide)] <;> rfl
  exact ev59_6

end Cert.RefValue

end
-- ==== Proof.RefGather.lean ====
/- The reference's gathers read at an index: the operand at the clamped start. -/
module

public import proofs.«01_k».proof.Proof.Gen.ReferenceIdeal
public import Idealize.ShloMosaic.Lib.Pointwise

@[expose] public section

noncomputable section

namespace Cert.RefGather

open Cert.ReferenceIdeal Cert.ReferenceIdeal.Gen Idealize.ShloMosaic

variable {α : Type}

/-- A start word, read signed and clamped to the operand's extent. -/
def clampTo (n : Nat) (w : BitVec 32) : Fin (n + 1) := ⟨min w.toInt.toNat n, by omega⟩

theorem pair (x : S100x256x256.Idx → α) (i : IVec S4x2048x2 32) (b : Fin 4) (l : Fin 2048) (c : Fin 256) :
    Host.gather gather_S100x256x256_S4x2048x2_S4x2048x256_2_01_n_n_01_2_11256 x i (ix3 b l c) = x (ix3 (clampTo 99 (i (ix3 b l 0))) (clampTo 255 (i (ix3 b l 1))) c) := by
  unfold Host.gather
  congr 1
  funext a
  refine Fin.ext ?_
  show (gather_S100x256x256_S4x2048x2_S4x2048x256_2_01_n_n_01_2_11256).start (ix3 b l c) i a + (gather_S100x256x256_S4x2048x2_S4x2048x256_2_01_n_n_01_2_11256).batchCoord (ix3 b l c) a + (gather_S100x256x256_S4x2048x2_S4x2048x256_2_01_n_n_01_2_11256).offCoord (ix3 b l c) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.batchCoord_eq_zero _ _ _ (by decide), GatherDims.offCoord_eq_zero _ _ _ (by decide)]
    simp only [Nat.add_zero]
    unfold GatherDims.start
    rw [dif_pos (by decide)]
    have h : (gather_S100x256x256_S4x2048x2_S4x2048x256_2_01_n_n_01_2_11256).siIdx (ix3 b l c) ⟨List.idxOf (0 : Fin 3) (gather_S100x256x256_S4x2048x2_S4x2048x256_2_01_n_n_01_2_11256).startIndexMap, by decide⟩ = ix3 b l 0 := by
      funext q; refine Fin.ext ?_
      match q with
      | ⟨0, _⟩ => rfl
      | ⟨1, _⟩ => rfl
      | ⟨2, _⟩ => rfl
    rw [h]
    rfl
  · rw [GatherDims.batchCoord_eq_zero _ _ _ (by decide), GatherDims.offCoord_eq_zero _ _ _ (by decide)]
    simp only [Nat.add_zero]
    unfold GatherDims.start
    rw [dif_pos (by decide)]
    have h : (gather_S100x256x256_S4x2048x2_S4x2048x256_2_01_n_n_01_2_11256).siIdx (ix3 b l c) ⟨List.idxOf (1 : Fin 3) (gather_S100x256x256_S4x2048x2_S4x2048x256_2_01_n_n_01_2_11256).startIndexMap, by decide⟩ = ix3 b l 1 := by
      funext q; refine Fin.ext ?_
      match q with
      | ⟨0, _⟩ => rfl
      | ⟨1, _⟩ => rfl
      | ⟨2, _⟩ => rfl
    rw [h]
    rfl
  · rw [GatherDims.batchCoord_eq_zero _ _ _ (by decide)]
    unfold GatherDims.start GatherDims.offCoord
    rw [dif_neg (by decide), dif_pos (by decide)]
    simp only [Nat.zero_add, Nat.add_zero]
    rfl

theorem word (x : S256x1024.Idx → α) (i : IVec S4x2048x1 32) (b : Fin 4) (l : Fin 2048) (c : Fin 1024) :
    Host.gather gather_S256x1024_S4x2048x1_S4x2048x1024_2_0_n_n_0_2_11024 x i (ix3 b l c) = x (ix2 (clampTo 255 (i (ix3 b l 0))) c) := by
  unfold Host.gather
  congr 1
  funext a
  refine Fin.ext ?_
  show (gather_S256x1024_S4x2048x1_S4x2048x1024_2_0_n_n_0_2_11024).start (ix3 b l c) i a + (gather_S256x1024_S4x2048x1_S4x2048x1024_2_0_n_n_0_2_11024).batchCoord (ix3 b l c) a + (gather_S256x1024_S4x2048x1_S4x2048x1024_2_0_n_n_0_2_11024).offCoord (ix3 b l c) a = _
  have ha : a = 0 ∨ a = 1 := by
    match a with
    | ⟨0, _⟩ => exact .inl rfl
    | ⟨1, _⟩ => exact .inr rfl
  rcases ha with rfl | rfl
  · rw [GatherDims.batchCoord_eq_zero _ _ _ (by decide), GatherDims.offCoord_eq_zero _ _ _ (by decide)]
    simp only [Nat.add_zero]
    unfold GatherDims.start
    rw [dif_pos (by decide)]
    have h : (gather_S256x1024_S4x2048x1_S4x2048x1024_2_0_n_n_0_2_11024).siIdx (ix3 b l c) ⟨List.idxOf (0 : Fin 2) (gather_S256x1024_S4x2048x1_S4x2048x1024_2_0_n_n_0_2_11024).startIndexMap, by decide⟩ = ix3 b l 0 := by
      funext q; refine Fin.ext ?_
      match q with
      | ⟨0, _⟩ => rfl
      | ⟨1, _⟩ => rfl
      | ⟨2, _⟩ => rfl
    rw [h]
    rfl
  · rw [GatherDims.batchCoord_eq_zero _ _ _ (by decide)]
    unfold GatherDims.start GatherDims.offCoord
    rw [dif_neg (by decide), dif_pos (by decide)]
    simp only [Nat.zero_add, Nat.add_zero]
    rfl

theorem step (x : S101x1024.Idx → α) (i : IVec S4x1 32) (b : Fin 4) (c : Fin 1024) :
    Host.gather gather_S101x1024_S4x1_S4x1024_1_0_n_n_0_1_11024 x i (ix2 b c) = x (ix2 (clampTo 100 (i (ix2 b 0))) c) := by
  unfold Host.gather
  congr 1
  funext a
  refine Fin.ext ?_
  show (gather_S101x1024_S4x1_S4x1024_1_0_n_n_0_1_11024).start (ix2 b c) i a + (gather_S101x1024_S4x1_S4x1024_1_0_n_n_0_1_11024).batchCoord (ix2 b c) a + (gather_S101x1024_S4x1_S4x1024_1_0_n_n_0_1_11024).offCoord (ix2 b c) a = _
  have ha : a = 0 ∨ a = 1 := by
    match a with
    | ⟨0, _⟩ => exact .inl rfl
    | ⟨1, _⟩ => exact .inr rfl
  rcases ha with rfl | rfl
  · rw [GatherDims.batchCoord_eq_zero _ _ _ (by decide), GatherDims.offCoord_eq_zero _ _ _ (by decide)]
    simp only [Nat.add_zero]
    unfold GatherDims.start
    rw [dif_pos (by decide)]
    have h : (gather_S101x1024_S4x1_S4x1024_1_0_n_n_0_1_11024).siIdx (ix2 b c) ⟨List.idxOf (0 : Fin 2) (gather_S101x1024_S4x1_S4x1024_1_0_n_n_0_1_11024).startIndexMap, by decide⟩ = ix2 b 0 := by
      funext q; refine Fin.ext ?_
      match q with
      | ⟨0, _⟩ => rfl
      | ⟨1, _⟩ => rfl
    rw [h]
    rfl
  · rw [GatherDims.batchCoord_eq_zero _ _ _ (by decide)]
    unfold GatherDims.start GatherDims.offCoord
    rw [dif_neg (by decide), dif_pos (by decide)]
    simp only [Nat.zero_add, Nat.add_zero]
    rfl

theorem entry (x : S4x2048x256.Idx → α) (i : IVec S4x2048x1x1 32) (b : Fin 4) (l : Fin 2048) (z : Fin 1) :
    Host.gather gather_S4x2048x256_S4x2048x1x1_S4x2048x1_n_2_01_01_2_3_111 x i (ix3 b l z) = x (ix3 b l (clampTo 255 (i (ix4 b l z 0)))) := by
  unfold Host.gather
  congr 1
  funext a
  refine Fin.ext ?_
  show (gather_S4x2048x256_S4x2048x1x1_S4x2048x1_n_2_01_01_2_3_111).start (ix3 b l z) i a + (gather_S4x2048x256_S4x2048x1x1_S4x2048x1_n_2_01_01_2_3_111).batchCoord (ix3 b l z) a + (gather_S4x2048x256_S4x2048x1x1_S4x2048x1_n_2_01_01_2_3_111).offCoord (ix3 b l z) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have h : (gather_S4x2048x256_S4x2048x1x1_S4x2048x1_n_2_01_01_2_3_111).siIdx (ix3 b l z) ⟨List.idxOf (2 : Fin 3) (gather_S4x2048x256_S4x2048x1x1_S4x2048x1_n_2_01_01_2_3_111).startIndexMap, by decide⟩ = ix4 b l z 0 := by
      funext q; refine Fin.ext ?_
      match q with
      | ⟨0, _⟩ => rfl
      | ⟨1, _⟩ => rfl
      | ⟨2, _⟩ => rfl
      | ⟨3, _⟩ => rfl
    rw [h]
    rfl

end Cert.RefGather

end
-- ==== Proof.RefPick.lean ====
/- The reference's draw: the first column at which a row is greatest. -/
module

public import proofs.«01_k».proof.Proof.Gen.ReferenceIdeal
public import Idealize.ShloMosaic.Lib.Pointwise
public import proofs.«01_k».proof.Proof.Rows

@[expose] public section

set_option maxRecDepth 16384

noncomputable section

namespace Cert.RefPick

open Cert.ReferenceIdeal Cert.ReferenceIdeal.Gen Idealize.ShloMosaic Cert.Rows

/-- A column's number as a word. -/
abbrev num (k : Fin 256) : BitVec 32 := BitVec.ofNat 32 k.val

theorem num_slt (j k : Fin 256) : (num j).slt (num k) = decide (j < k) := by
  have hj : (num j).toInt = j.val := by
    rw [BitVec.toInt_eq_toNat_of_lt (by rw [BitVec.toNat_ofNat]; omega), BitVec.toNat_ofNat]; omega
  have hk : (num k).toInt = k.val := by
    rw [BitVec.toInt_eq_toNat_of_lt (by rw [BitVec.toNat_ofNat]; omega), BitVec.toNat_ofNat]; omega
  rw [BitVec.slt, hj, hk]
  simp

/-- One step of the search. -/
theorem step_eq (a b : EReal) (j k : Fin 256) :
    reducer_argmax_f32_i32 (F := Ideal) (a, num j) (b, num k) = (max a b, num (if b < a ∨ (a = b ∧ j < k) then j else k)) := by
  unfold reducer_argmax_f32_i32
  simp only [Ideal.cmpf_def, Ideal.cmp, IntOp.cmpi, IntOp.ori, IntOp.andi, Scalar.select, num_slt]
  rcases lt_trichotomy a b with h | h | h
  · simp [h, h.le, h.ne, not_lt.mpr h.le]
  · subst h
    by_cases hjk : j < k <;> simp [hjk]
  · simp [h, h.le, h.ne', not_lt.mpr h.le]

/-- What a search over some columns has found. -/
def Found (v : Row) (L : List (Fin 256)) (m : EReal) (j : Fin 256) : Prop :=
  (∀ i ∈ L, v i ≤ m) ∧ ((v j = m ∧ ∀ i ∈ L, v i = m → j ≤ i) ∨ (m = ⊥ ∧ j = 0))

theorem search (v : Row) (L D : List (Fin 256)) (m : EReal) (j : Fin 256) (h : Found v D m j) :
    ∃ m' j', (L.map fun k => ((v k : Ideal .f32), num k)).foldl (reducer_argmax_f32_i32 (F := Ideal)) (m, num j) = (m', num j') ∧ Found v (L ++ D) m' j' := by
  induction L generalizing m j D with
  | nil => exact ⟨m, j, rfl, h⟩
  | cons k L ih =>
    have hs : Found v (k :: D) (max m (v k)) (if v k < m ∨ (m = v k ∧ j < k) then j else k) := by
      obtain ⟨h1, h2⟩ := h
      refine ⟨fun i hi => ?_, ?_⟩
      · rcases List.mem_cons.mp hi with rfl | hi
        · exact le_max_right _ _
        · exact (h1 i hi).trans (le_max_left _ _)
      · rcases lt_trichotomy m (v k) with hm | hm | hm
        · rw [if_neg (by rintro (c | c); exacts [absurd c hm.not_gt, absurd c.1 hm.ne]), max_eq_right hm.le]
          refine .inl ⟨rfl, fun i hi he => ?_⟩
          rcases List.mem_cons.mp hi with rfl | hi
          · exact le_rfl
          · exact absurd (h1 i hi) (by rw [he]; exact hm.not_ge)
        · rw [← hm, max_self]
          by_cases hjk : j < k
          · rw [if_pos (.inr ⟨rfl, hjk⟩)]
            rcases h2 with ⟨e, h2⟩ | h2
            · refine .inl ⟨e, fun i hi he => ?_⟩
              rcases List.mem_cons.mp hi with rfl | hi
              · exact hjk.le
              · exact h2 i hi he
            · exact .inr h2
          · rw [if_neg (by rintro (c | c); exacts [absurd c (lt_irrefl _), hjk c.2])]
            rcases h2 with ⟨e, h2⟩ | ⟨e, h2⟩
            · refine .inl ⟨hm.symm, fun i hi he => ?_⟩
              rcases List.mem_cons.mp hi with rfl | hi
              · exact le_rfl
              · exact (not_lt.mp hjk).trans (h2 i hi he)
            · refine .inr ⟨e, ?_⟩
              rw [h2] at hjk
              exact le_antisymm (not_lt.mp hjk) (Fin.zero_le _)
        · rw [if_pos (.inl hm), max_eq_left hm.le]
          rcases h2 with ⟨e, h2⟩ | h2
          · refine .inl ⟨e, fun i hi he => ?_⟩
            rcases List.mem_cons.mp hi with rfl | hi
            · exact absurd he hm.ne
            · exact h2 i hi he
          · exact .inr h2
    obtain ⟨m', j', e, f⟩ := ih (k :: D) _ _ hs
    refine ⟨m', j', ?_, ?_⟩
    · rw [List.map_cons, List.foldl_cons, step_eq]; exact e
    · have : ∀ i, i ∈ L ++ k :: D ↔ i ∈ k :: L ++ D := fun i => by simp; tauto
      refine ⟨fun i hi => f.1 i ((this i).mpr hi), f.2.imp (fun g => ⟨g.1, fun i hi => g.2 i ((this i).mpr hi)⟩) id⟩

/-- An index's column. -/
def column (i : S4x2048x256.Idx) : Fin 256 := i 2

/-- The reference's draw. -/
theorem argmax (x : FVec Ideal S4x2048x256 .f32) (b : Fin 4) (l : Fin 2048) (p : Fin 256) (hp : First (fun k => x (ix3 b l k)) p) :
    (Host.argReduce reducer_argmax_f32_i32 x (iotaInDim S4x2048x256 32 2) (constant (F := Ideal) S_ .f32 0xFF800000#32) (constantI S_ 32 0#32) reducesTo_S4x2048x256_S4x2048_d2 h_S_ (ix2 b l)).2 = num p := by
  rw [Ideal.argReduce_eq_reduce2, Host.reduce2_eq_foldl_fiber]
  obtain ⟨L, hL, hall⟩ : ∃ L : List (Fin 256), Host.argReduceFiber x (iotaInDim S4x2048x256 32 2) reducesTo_S4x2048x256_S4x2048_d2 (ix2 b l) = (L.map fun k => ((x (ix3 b l k) : Ideal .f32), num k)) ∧ ∀ k, k ∈ L := by
    refine ⟨((List.finRange S4x2048x256.numel).filter fun n => reducesTo_S4x2048x256_S4x2048_d2.drop (S4x2048x256.rowMajor.symm n) = ix2 b l).map fun n => column (S4x2048x256.rowMajor.symm n), ?_, fun k => ?_⟩
    · unfold Host.argReduceFiber
      rw [List.map_map]
      refine List.map_congr_left fun n hn => ?_
      have hd := of_decide_eq_true (List.mem_filter.mp hn).2
      obtain ⟨k, hk⟩ := (Shape.ReducesTo.fiber_r3_a2 reducesTo_S4x2048x256_S4x2048_d2 _ _).mp hd
      have hk' : ix3 b l k = S4x2048x256.rowMajor.symm n := hk
      show _ = (x (ix3 b l (column (S4x2048x256.rowMajor.symm n))), num (column (S4x2048x256.rowMajor.symm n)))
      rw [← hk']
      rfl
    · refine List.mem_map.mpr ⟨S4x2048x256.rowMajor (ix3 b l k), List.mem_filter.mpr ⟨List.mem_finRange _, decide_eq_true ?_⟩, ?_⟩
      · rw [Equiv.symm_apply_apply]
        exact (Shape.ReducesTo.fiber_r3_a2 reducesTo_S4x2048x256_S4x2048_d2 _ _).mpr ⟨k, rfl⟩
      · rw [Equiv.symm_apply_apply]; rfl
  have h0 : ((constant (F := Ideal) S_ .f32 0xFF800000#32) (Shape.Idx.first h_S_), (constantI S_ 32 0#32) (Shape.Idx.first h_S_)) = ((⊥ : EReal), num 0) := by
    refine Prod.ext ?_ rfl
    show Ideal.ofBits .f32 0xFF800000#32 = ⊥
    simp [Ideal.ofBits, Ideal.ieee]
  rw [hL, h0]
  obtain ⟨m, j, e, h1, h2⟩ := search (fun k => x (ix3 b l k)) L [] ⊥ 0 ⟨by simp, .inr ⟨rfl, rfl⟩⟩
  rw [e]
  show num j = num p
  have hle : top (fun k => x (ix3 b l k)) ≤ m := by
    rw [top_eq_sup]; exact Finset.sup_le fun k _ => h1 k (by simp [hall])
  have : First (fun k => x (ix3 b l k)) j := by
    rcases h2 with ⟨g, h2⟩ | ⟨g, rfl⟩
    · refine ⟨hle.trans g.ge, fun k hk => h2 k (by simp [hall]) (le_antisymm (h1 k (by simp [hall])) (g.ge.trans ((le_top _ j).trans hk)))⟩
    · refine ⟨hle.trans (g ▸ bot_le), fun k _ => Fin.zero_le _⟩
  rw [this.unique hp]

end Cert.RefPick

end
-- ==== Proof.RefTop.lean ====
/- The reference's rows and their softmax read at an index. -/
module

public import proofs.«01_k».proof.Proof.RefValue
public import proofs.«01_k».proof.Proof.RefGather
public import proofs.«01_k».proof.Proof.RefPick

@[expose] public section

set_option maxRecDepth 16384
noncomputable section

namespace Cert.RefRows

open Cert.ReferenceIdeal Cert.ReferenceIdeal.Gen Idealize.ShloMosaic Cert.RefStages Cert.Rows Cert.RefPick

variable (b : Fin 4) (l : Fin 2048) (c : Fin 256)

theorem ofBits_negInf : Ideal.ofBits .f32 0xFF800000#32 = ⊥ := by
  simp [Ideal.ofBits, Ideal.ieee]

/-- The greatest entry of every row, before the guard. -/
def most (x : FVec Ideal S4x2048x256 .f32) : FVec Ideal S4x2048 .f32 :=
  Host.reduce FloatOps.maximumf x (constant S_ .f32 0xFF800000#32) reducesTo_S4x2048x256_S4x2048_d2 h_S_

theorem fold_max (d : Row) : Finset.univ.fold (FloatOps.maximumf (F := Ideal) (φ := .f32)) (⊥ : EReal) d = top d := rfl

theorem most_apply (x : FVec Ideal S4x2048x256 .f32) : most x (ix2 b l) = top (fun k => x (ix3 b l k)) := by
  unfold most
  rw [Host.reduce_eq_fold]
  rw [Shape.ReducesTo.fold_fiber_r3_a2]
  have h : (constant (F := Ideal) S_ .f32 0xFF800000#32) (Shape.Idx.first h_S_) = (⊥ : EReal) := ofBits_negInf
  rw [h]
  exact fold_max _

/-- The greatest entry of every row. -/
def tops (x : FVec Ideal S4x2048x256 .f32) : FVec Ideal S4x2048 .f32 :=
  maximumf (broadcastInDim S4x2048 ![] bcast_S_S4x2048 (constant (F := Ideal) S_ .f32 0xFF800000#32)) (most x)

theorem guard (m : FVec Ideal S4x2048 .f32) : maximumf (broadcastInDim S4x2048 ![] bcast_S_S4x2048 (constant (F := Ideal) S_ .f32 0xFF800000#32)) m (ix2 b l) = max (Ideal.ofBits .f32 0xFF800000#32) (m (ix2 b l)) := by
  rfl

theorem tops_apply (x : FVec Ideal S4x2048x256 .f32) : tops x (ix2 b l) = top (fun k => x (ix3 b l k)) := by
  refine (guard b l (most x)).trans ?_
  rw [most_apply, ofBits_negInf]
  exact max_eq_right bot_le

end Cert.RefRows

end
-- ==== Proof.RefSoft.lean ====
/- The reference's rows and their softmax read at an index. -/
module

public import proofs.«01_k».proof.Proof.RefTop
public import proofs.«01_k».proof.Proof.RefGather
public import proofs.«01_k».proof.Proof.RefPick

@[expose] public section

set_option maxRecDepth 16384
noncomputable section

namespace Cert.RefRows

open Cert.ReferenceIdeal Cert.ReferenceIdeal.Gen Idealize.ShloMosaic Cert.RefStages Cert.Rows Cert.RefPick

variable (b : Fin 4) (l : Fin 2048) (c : Fin 256)

/-- Every row less its greatest entry. -/
def less (x : FVec Ideal S4x2048x256 .f32) (m : FVec Ideal S4x2048 .f32) : FVec Ideal S4x2048x256 .f32 :=
  subf x (broadcastInDim S4x2048x256 ![0, 1, 2] bcast_S4x2048x1_S4x2048x256_0_1_2 (broadcastInDim S4x2048x1 ![0, 1] bcast_S4x2048_S4x2048x1_0_1 m))

theorem less_apply (x : FVec Ideal S4x2048x256 .f32) (m : FVec Ideal S4x2048 .f32) : less x m (ix3 b l c) = x (ix3 b l c) - m (ix2 b l) := by
  pointwise [less]

/-- The sum of every row. -/
def sums (x : FVec Ideal S4x2048x256 .f32) : FVec Ideal S4x2048 .f32 :=
  Host.reduceAdd x (constant S_ .f32 0x00000000#32) reducesTo_S4x2048x256_S4x2048_d2 h_S_

theorem sums_apply (x : FVec Ideal S4x2048x256 .f32) : sums x (ix2 b l) = ∑ k, x (ix3 b l k) := by
  pointwise [sums]

theorem masses (x : FVec Ideal S4x2048x256 .f32) : sums (Host.exp (less x (tops x))) (ix2 b l) = mass (fun k => x (ix3 b l k)) := by
  rw [sums_apply]
  refine Finset.sum_congr rfl fun k _ => ?_
  show Ideal.exp (less x (tops x) (ix3 b l k)) = _
  rw [less_apply, tops_apply]

theorem lsmAll_apply (x : FVec Ideal S4x2048x256 .f32) : lsmAll (F := Ideal) x (ix3 b l c) = lsm (fun k => x (ix3 b l k)) c := by
  have h : lsmAll (F := Ideal) x = subf (less x (tops x)) (broadcastInDim S4x2048x256 ![0, 1, 2] bcast_S4x2048x1_S4x2048x256_0_1_2
      (Host.log (broadcastInDim S4x2048x1 ![0, 1] bcast_S4x2048_S4x2048x1_0_1 (sums (Host.exp (less x (tops x))))))) := rfl
  rw [h]
  generalize hs : sums (Host.exp (less x (tops x))) = s
  generalize hd : less x (tops x) = d
  pointwise
  rw [← hs, masses, ← hd, less_apply, tops_apply]
  rfl

theorem mixed_apply (q n : FVec Ideal S4x2048x256 .f32) :
    mixed (F := Ideal) q n (ix3 b l c) = noisy (fun k => q (ix3 b l k)) (fun k => n (ix3 b l k)) c := by
  pointwise [mixed]
  rfl

end Cert.RefRows

end
-- ==== Proof.RefRows.lean ====
/- The reference's quantities read at an index. -/
module

public import proofs.«01_k».proof.Proof.RefSoft
public import proofs.«01_k».proof.Proof.RefGather
public import proofs.«01_k».proof.Proof.RefPick

@[expose] public section

set_option maxRecDepth 16384
noncomputable section

namespace Cert.RefRows

open Cert.ReferenceIdeal Cert.ReferenceIdeal.Gen Idealize.ShloMosaic Cert.RefStages Cert.Rows Cert.RefPick

variable (b : Fin 4) (l : Fin 2048) (c : Fin 256)

/-- A step's number as a word. -/
abbrev stepNum (s : Fin 100) : BitVec 32 := BitVec.ofNat 32 (s.val + 1)

theorem clamp_num (k : Fin 256) : RefGather.clampTo 255 (Scalar.select (IntOp.cmpi .slt (num k) 0#32) (num k + 256#32) (num k)) = k := by
  revert k; decide

theorem clamp_step (s : Fin 100) : RefGather.clampTo 99 (Scalar.select (IntOp.cmpi .slt (stepNum s - 1#32) 0#32) (stepNum s - 1#32 + 100#32) (stepNum s - 1#32)) = s := by
  revert s; decide

theorem clamp_step' (s : Fin 100) : RefGather.clampTo 100 (Scalar.select (IntOp.cmpi .slt (stepNum s) 0#32) (stepNum s + 101#32) (stepNum s)) = s.succ := by
  revert s; decide

theorem wordRows_apply (E : FVec Ideal S256x1024 .f32) (y : IVec S4x2048 32) (k : Fin 256) (hy : y (ix2 b l) = num k) (i : Fin 1024) :
    wordRows (F := Ideal) E y (ix3 b l i) = E (ix2 k i) := by
  unfold wordRows
  refine (RefGather.word _ _ _ _ _).trans ?_
  refine congrArg (fun z => E (ix2 z i)) (Eq.trans (congrArg (RefGather.clampTo 255) ?_) (clamp_num k))
  pointwise
  rw [hy]
  rfl

theorem stepRows_apply (T : FVec Ideal S101x1024 .f32) (t : IVec S4 32) (s : Fin 100) (ht : t (ix1 b) = stepNum s) (i : Fin 1024) :
    stepRows (F := Ideal) T t (ix2 b i) = T (ix2 s.succ i) := by
  unfold stepRows
  refine (RefGather.step _ _ _ _).trans ?_
  refine congrArg (fun z => T (ix2 z i)) (Eq.trans (congrArg (RefGather.clampTo 100) ?_) (clamp_step' s))
  pointwise
  rw [ht]
  rfl

theorem pairRows_apply (q : FVec Ideal S100x256x256 .f32) (t : IVec S4 32) (x : IVec S4x2048 32) (s : Fin 100) (ht : t (ix1 b) = stepNum s) (k : Fin 256) (hx : x (ix2 b l) = num k) :
    pairRows (F := Ideal) q t x (ix3 b l c) = q (ix3 s k c) := by
  unfold pairRows
  refine (RefGather.pair _ _ _ _ _).trans ?_
  refine congrArg₂ (fun z w => q (ix3 z w c)) (Eq.trans (congrArg (RefGather.clampTo 99) ?_) (clamp_step s)) (Eq.trans (congrArg (RefGather.clampTo 255) ?_) (clamp_num k))
  · pointwise [RefRun.sideBySide]
    rw [ht]
    rfl
  · pointwise [RefRun.sideBySide]
    rw [hx]
    rfl

theorem picked_eq (x : FVec Ideal S4x2048x256 .f32) : picked (F := Ideal) x = fun j => (Host.argReduce reducer_argmax_f32_i32 x (iotaInDim S4x2048x256 32 2) (constant (F := Ideal) S_ .f32 0xFF800000#32) (constantI S_ 32 0#32) reducesTo_S4x2048x256_S4x2048_d2 h_S_ j).2 := by
  unfold picked
  with_reducible rfl

theorem picked_apply (x : FVec Ideal S4x2048x256 .f32) (p : Fin 256) (hp : First (fun k => x (ix3 b l k)) p) : picked (F := Ideal) x (ix2 b l) = num p :=
  (congrFun (picked_eq x) (ix2 b l)).trans (argmax x b l p hp)

end Cert.RefRows

end
-- ==== Proof.ChainFacts.lean ====
/- What the precondition says, entry by entry: every token is a class, every transition matrix is an absorbing chain's,
   and every weight is a real number. -/
module

public import proofs.«01_k».proof.Proof.Frames
public import proofs.«01_k».proof.Proof.TileLogits
public import proofs.«01_k».proof.Proof.RefRows
public import proofs.«01_k».proof.Proof.Gen.Pre_absorbing_chain
public import Idealize.ShloMosaic.Lib.Pointwise

@[expose] public section

set_option maxRecDepth 16384

noncomputable section

namespace Cert.Chain

open Cert.Pre_absorbing_chain Idealize.ShloMosaic Cert.Rows

variable (x : IVec S4x2048 32) (t : IVec S4 32) (n : FVec Ideal S4x2048x256 .f32) (d q : FVec Ideal S100x256x256 .f32)
  (E : FVec Ideal S256x1024 .f32) (T : FVec Ideal S101x1024 .f32) (W1 : FVec Ideal S1024x1024 .f32) (b1 : FVec Ideal S1024 .f32)
  (W2 : FVec Ideal S1024x256 .f32) (b2 : FVec Ideal S256 .f32)

/-- A number the comparisons find in range is a class. -/
theorem class_of_bits : ∀ w : BitVec 32, IntOp.andi (IntOp.cmpi CmpIPredicate.sge w 0#32) (IntOp.cmpi CmpIPredicate.slt w 256#32) = 1#1 →
    ∃ X : Fin 256, w = RefPick.num X := by
  intro w h
  have h1 : (0#32).sle w = true ∧ w.slt 256#32 = true := by
    revert h
    simp only [IntOp.andi, IntOp.cmpi]
    cases (0#32).sle w <;> cases w.slt 256#32 <;> simp
  have h2 : w.toNat < 256 := by
    obtain ⟨ha, hb⟩ := h1
    simp only [BitVec.sle, BitVec.slt, decide_eq_true_eq, BitVec.toInt_eq_toNat_cond] at ha hb
    simp at ha hb
    have := w.isLt
    split at ha <;> omega
  exact ⟨⟨w.toNat, h2⟩, by simp [RefPick.num]⟩

theorem token (h : (fn (F := Ideal) x t n d q E T W1 b1 W2 b2).2.1 = fun _ => 1#1) (b : Fin 4) (l : Fin 2048) :
    ∃ X : Fin 256, x (ix2 b l) = RefPick.num X := by
  refine class_of_bits _ (Eq.trans ?_ (congrFun h (ix2 b l)))
  symm
  unfold fn fn_part1 fn_part2
  dsimp only
  pointwise

theorem eq_num (r c : Fin 256) : Scalar.select (IntOp.cmpi CmpIPredicate.eq (BitVec.ofNat 32 r.val) (BitVec.ofNat 32 c.val)) = fun (a b : EReal) => if r = c then a else b := by
  funext a b
  have : (BitVec.ofNat 32 r.val = BitVec.ofNat 32 c.val) ↔ r = c := by
    constructor
    · intro h
      have := congrArg BitVec.toNat h
      simp at this
      exact Fin.ext (by omega)
    · rintro rfl; rfl
  by_cases hrc : r = c
  · simp [Scalar.select, IntOp.cmpi, hrc]
  · have hw : (BitVec.ofNat 32 r.val == BitVec.ofNat 32 c.val) = false := by
      rw [beq_eq_false_iff_ne]; exact fun h => hrc (this.mp h)
    simp only [Scalar.select, IntOp.cmpi, hw, if_neg hrc]
    rfl

theorem bit_true {p : Prop} [Decidable p] (e : 1#1 = BitVec.ofBool (decide p)) : p := by
  by_contra hp
  simp [hp] at e

theorem chain (h : (fn (F := Ideal) x t n d q E T W1 b1 W2 b2).2.2.1 = fun _ => 1#1) (k : Fin 100) (r c : Fin 256) :
    q (ix3 k r c) = Tile.chainRow (q (ix3 k 0 0)) (q (ix3 k 0 255)) (q (ix3 k 255 255)) r c := by
  have e : (fn (F := Ideal) x t n d q E T W1 b1 W2 b2).2.2.1 (ix3 k r c) =
    BitVec.ofBool (decide (q (ix3 k r c) =
          Scalar.select (IntOp.cmpi CmpIPredicate.eq (BitVec.ofNat 32 c.val) (BitVec.ofNat 32 (255 : Fin 256).val))
            (Scalar.select (IntOp.cmpi CmpIPredicate.eq (BitVec.ofNat 32 r.val) (BitVec.ofNat 32 (255 : Fin 256).val)) (q (ix3 k 255 255))
              (q (ix3 k 0 255)))
            (Scalar.select (IntOp.cmpi CmpIPredicate.eq (BitVec.ofNat 32 r.val) (BitVec.ofNat 32 c.val)) (q (ix3 k 0 0)) 0))) := by
    unfold fn fn_part1 fn_part2
    dsimp only
    pointwise
    try rfl
  rw [congrFun h] at e
  rw [eq_num, eq_num, eq_num] at e
  have e2 := bit_true e
  refine e2.trans ?_
  unfold Tile.chainRow
  by_cases hc : c = 255
  · by_cases hr : r = 255
    · simp [hc, hr]
    · have : ¬ (255 : Fin 256) = r := fun h => hr h.symm
      simp [hc, hr, this]
  · by_cases hr : r = c
    · have : ¬ r = 255 := fun h => hc (hr ▸ h)
      simp [hc, hr]
    · have : ¬ c = r := fun h => hr h.symm
      simp [hc, hr, this]

theorem real_of_bit (a : EReal) (h : BitVec.ofBool (decide (FloatOps.absf (F := Ideal) (φ := .f32) a < Ideal.ofBits FTy.f32 2139095040#32)) = 1#1) : IsReal a := by
  have h1 := bit_true h.symm
  have hb : Ideal.ofBits FTy.f32 2139095040#32 = (⊤ : EReal) := by simp [Ideal.ofBits, Ideal.ieee]
  rw [hb] at h1
  have h2 : max a (-a) < (⊤ : EReal) := h1
  have h3 := max_lt_iff.mp h2
  have ht : a ≠ ⊤ := h3.1.ne
  have hn : a ≠ ⊥ := by
    rintro rfl
    exact absurd h3.2 (by simp)
  exact ⟨a.toReal, (EReal.coe_toReal ht hn).symm⟩

theorem realE (h : (fn (F := Ideal) x t n d q E T W1 b1 W2 b2).2.2.2.1 = fun _ => 1#1) (k : Fin 256) (r : Fin 1024) : IsReal (E (ix2 k r)) := by
  refine real_of_bit _ (Eq.trans ?_ (congrFun h (ix2 k r)))
  symm; unfold fn fn_part1 fn_part2; dsimp only; pointwise

theorem realT (h : (fn (F := Ideal) x t n d q E T W1 b1 W2 b2).2.2.2.2.1 = fun _ => 1#1) (k : Fin 101) (r : Fin 1024) : IsReal (T (ix2 k r)) := by
  refine real_of_bit _ (Eq.trans ?_ (congrFun h (ix2 k r)))
  symm; unfold fn fn_part1 fn_part2; dsimp only; pointwise

theorem realW1 (h : (fn (F := Ideal) x t n d q E T W1 b1 W2 b2).2.2.2.2.2.1 = fun _ => 1#1) (k : Fin 1024) (r : Fin 1024) : IsReal (W1 (ix2 k r)) := by
  refine real_of_bit _ (Eq.trans ?_ (congrFun h (ix2 k r)))
  symm; unfold fn fn_part1 fn_part2; dsimp only; pointwise

theorem realb1 (h : (fn (F := Ideal) x t n d q E T W1 b1 W2 b2).2.2.2.2.2.2.1 = fun _ => 1#1) (r : Fin 1024) : IsReal (b1 (ix1 r)) := by
  refine real_of_bit _ (Eq.trans ?_ (congrFun h (ix1 r)))
  symm; unfold fn fn_part1 fn_part2; dsimp only; pointwise

theorem realW2 (h : (fn (F := Ideal) x t n d q E T W1 b1 W2 b2).2.2.2.2.2.2.2.1 = fun _ => 1#1) (k : Fin 1024) (r : Fin 256) : IsReal (W2 (ix2 k r)) := by
  refine real_of_bit _ (Eq.trans ?_ (congrFun h (ix2 k r)))
  symm; unfold fn fn_part1 fn_part2; dsimp only; pointwise

theorem realb2 (h : (fn (F := Ideal) x t n d q E T W1 b1 W2 b2).2.2.2.2.2.2.2.2 = fun _ => 1#1) (r : Fin 256) : IsReal (b2 (ix1 r)) := by
  refine real_of_bit _ (Eq.trans ?_ (congrFun h (ix1 r)))
  symm; unfold fn fn_part1 fn_part2; dsimp only; pointwise

end Cert.Chain

end
-- ==== Proof.KernelRun.lean ====
/- The kernel's run, read at the cross entropy: the output's one cell as the last grid point left it, then the host's
   reshape of it to a scalar. -/
module

public import proofs.«01_k».proof.Proof.KernelIdealFrame
public import Idealize.ShloMosaic.Lib.Pipeline.Value
public import Idealize.ShloMosaic.Lib.Pointwise

@[expose] public section

set_option maxRecDepth 16384

noncomputable section

namespace Cert.KernelRun

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (hO : Ok m) (c : Dev nD)

theorem lastLt : 15 < (cfgM m hO).N := by show 15 < grid0.N; decide

/-- What the last grid point leaves in the output's cell. -/
def result : Vec F S1x1 .f32 := (outsAt0 m hO c 15 (lastLt m hO)).1

theorem index16 : ∀ t : Fin grid0.N, cc0_transform_16 (grid0.coords t) = ![0, 0] := by decide +kernel

theorem flushed_eq (t : Fin (cfgM m hO).N) (hf : ((cfgM m hO).win 16).flush t = true) :
    (dats m hO 0 c).flushed 16 t = (((cfgM m hO).win 16).blk t).view.read (Elt F) (result m hO c) := by
  have h15 : t.val = 15 := by
    have h1 := (flush0_16 (adm m hO) t).mp hf
    have h2 : t.val < 16 := t.isLt
    omega
  obtain rfl : t = ⟨15, lastLt m hO⟩ := Fin.ext h15
  show ((cfgM m hO).win 16).cut (grid0.coords ⟨15, lastLt m hO⟩) ((dats m hO 0 c).after 16 ⟨15, lastLt m hO⟩) = _
  rw [after0_16]
  have e : (outsAt0 m hO c (⟨15, lastLt m hO⟩ : Fin (cfgM m hO).N).val (lastLt m hO)).1 = result m hO c := by unfold result; rfl
  rw [e]
  generalize result m hO c = G
  refine funext fun (j : S1x1.Idx) => ?_
  refine Eq.trans ?_ (View.read_apply ..).symm
  show G _ = G _
  refine congrArg G ?_
  funext a
  apply Fin.ext
  match a with
  | ⟨0, _⟩ =>
    show (j 0).val = cc0_transform_16 (grid0.coords ⟨15, lastLt m hO⟩) 0 * 1 + 1 * (j 0).val
    rw [index16]; simp
  | ⟨1, _⟩ =>
    show (j 1).val = cc0_transform_16 (grid0.coords ⟨15, lastLt m hO⟩) 1 * 1 + 1 * (j 1).val
    rw [index16]; simp

/-- So the output's array ends holding it. -/
theorem final : (dats m hO 0 c).arrAt 16 (cfgM m hO).N = result m hO c :=
  (dats m hO 0 c).arrAt_eq_of_cover 16 (result m hO c) (flushed_eq m hO c) fun (i : S1x1.Idx) =>
    ⟨⟨15, lastLt m hO⟩, (flush0_16 (adm m hO) ⟨15, lastLt m hO⟩).mpr rfl, by
      show i ∈ ((View.whole main_v4_0).slice (((cfgM m hO).win 16).rect ⟨15, lastLt m hO⟩)).set
      refine Eq.mpr (congrArg (fun S => i ∈ S) (View.set_slice_whole ..)) ?_
      refine (Rect.mem_set_unit ..).mpr ?_
      intro a
      have h0 : (i 0 : Nat) < 1 := (i 0).isLt
      have h1 : (i 1 : Nat) < 1 := (i 1).isLt
      match a with
      | ⟨0, _⟩ =>
        show cc0_transform_16 (grid0.coords ⟨15, lastLt m hO⟩) 0 * 1 ≤ (i 0 : Nat) ∧ (i 0 : Nat) < cc0_transform_16 (grid0.coords ⟨15, lastLt m hO⟩) 0 * 1 + 1
        rw [index16]; simp; omega
      | ⟨1, _⟩ =>
        show cc0_transform_16 (grid0.coords ⟨15, lastLt m hO⟩) 1 * 1 ≤ (i 1 : Nat) ∧ (i 1 : Nat) < cc0_transform_16 (grid0.coords ⟨15, lastLt m hO⟩) 1 * 1 + 1
        rw [index16]; simp; omega⟩

theorem only16 : ∀ w : Fin 18, (16 : Fin 18) ≠ w → Pipeline.arrRef spec0 16 ≠ Pipeline.arrRef spec0 w := by decide

/-- The host's line after the region reads it. -/
theorem tail : Pipeline.afterTail pcfgs (fun _ => adm m hO) (dats m hO) 0 (V0 m) [hostOps1] c main_v5 = shapeCast S_ (result m hO c) shapeCasts_S1x1_S_ := by
  unfold Pipeline.afterTail
  simp only [List.flatten_cons, List.flatten_nil, List.append_nil, StableHlo.after_cons, StableHlo.after_nil, hostOps1]
  rw [StableHlo.reshape_result]
  have h := Pipeline.withArrays_arr_shared spec0 c (V0 m c) (fun w => (dats m hO 0 c).arrAt w (cfgM m hO).N)
    (fun w w' hne e => (dats m hO 0 c).arrAt_sharedIn sharedIn0 (V0 m c) (A_eq m hO c) _ w w' hne e) 16
  have h2 := h.trans (final m hO c)
  exact congrArg (fun x : Vec F S1x1 .f32 => shapeCast S_ x shapeCasts_S1x1_S_) h2

variable (ρ : Dev nD → PrngReg)

/-- The run: the result at what the last grid point left, the arguments unchanged. -/
theorem run : θ_run defs (onTc (τ := τ) (main (F := F))) ⟨m, fun _ => 0, ρ⟩ fun r => ∀ c : Dev nD,
    r.2.mem ((c.tc : Thread nD τ).loc main_v5) = shapeCast S_ (result m hO c) shapeCasts_S1x1_S_ :=
  (θ_run defs _ _).mono (fun _ h c => ((h c).2 main_v5 (by decide : main_v5 ∈ Pipeline.restRefs sig spec0)).trans (tail m hO c)) (run_main m ρ hO)

end Cert.KernelRun

end
-- ==== Proof.KernelIdealPoint.lean ====
/- What one grid point of the kernel computes, as functions of the windows' contents: the one-hot rows drawn, the
   predicted logits, the point's cross entropy and variational bound; and that the two cases of the body (the first point,
   a later one) leave these in the two outputs and the scratch. -/
module

public import proofs.«01_k».proof.Proof.KernelIdealFrame
public import Idealize.ShloMosaic.Lib.Tactic
public import Idealize.ShloMosaic.Lib.Pipeline.Value
public import Idealize.ShloMosaic.Lib.ValueIdx

@[expose] public section

noncomputable section

namespace Cert.KernelIdealPoint

open Cert.KernelIdeal Cert.KernelIdeal.Gen Idealize.ShloMosaic Idealize.ShloMosaic.TcCoe Idealize.SL.Sem

variable {F : FTy → Type} [FloatOps F]

/-- The column numbers of a tile. -/
abbrev cols : IVec S512x256 32 := iota Kind.tc S512x256 32 [1] iota_S512x256_d1_w32

/-- The cell at the block's first row and column; at its first row and last column; at its last row and first column; at
    its last row and column. -/
abbrev cell00 (x : Vec F S1x8x256 .f32) : Vec F S1x1x1 .f32 := View.ld x (Rect.unit (s := S1x8x256) ![0, 0, 0] S1x1x1.size inb_S1x8x256_S1x1x1_0_0_0)
abbrev cell0L (x : Vec F S1x8x256 .f32) : Vec F S1x1x1 .f32 := View.ld x (Rect.unit (s := S1x8x256) ![0, 0, 255] S1x1x1.size inb_S1x8x256_S1x1x1_0_0_255)
abbrev cellL0 (x : Vec F S1x8x256 .f32) : Vec F S1x1x1 .f32 := View.ld x (Rect.unit (s := S1x8x256) ![0, 7, 0] S1x1x1.size inb_S1x8x256_S1x1x1_0_7_0)
abbrev cellLL (x : Vec F S1x8x256 .f32) : Vec F S1x1x1 .f32 := View.ld x (Rect.unit (s := S1x8x256) ![0, 7, 255] S1x1x1.size inb_S1x8x256_S1x1x1_0_7_255)

/-- The first tile's rows drawn, as one-hot rows. -/
def drawFirst (xb : Vec F S1x1x512 .i32) (nb : Vec F S1x512x256 .f32) (x4 x5 : Vec F S1x8x256 .f32) : FVec F S512x256 .f32 :=
  k0_pay10 (k0_pay4 (k0_pay6 xb) cols (k0_pay7 (cell00 x4)) (k0_pay8 (cell0L x4)) (k0_pay9 (cellLL x5))) (k0_pay5 nb)

/-- The next tile's rows drawn. -/
def drawNext (xb : Vec F S1x1x512 .i32) (nb : Vec F S1x512x256 .f32) (x4 x5 : Vec F S1x8x256 .f32) : FVec F S512x256 .f32 :=
  k0_pay3 (k0_pay28 cols (k0_pay26 cols (k0_pay7 (cell00 x4)) (k0_pay8 (cell0L x4)) (k0_pay9 (cellLL x5)) xb) (k0_pay27 nb))

/-- The predicted logits of a tile whose drawn rows are `z`. -/
def predicted (z : Vec F S512x256 .f32) (x10 : Vec F S256x1024 .f32) (x11 : Vec F S1x1x1024 .f32) (x12 : Vec F S1024x1024 .f32) (x13 : Vec F S1x1024 .f32)
    (x14 : Vec F S1024x256 .f32) (x15 : Vec F S1x256 .f32) : FVec F S512x256 .f32 :=
  k0_pay25 (k0_pay24 z x10 x11 x12 x13 x14) x15

/-- The tile's cross entropy added to the sum `p` so far. -/
def addCe (xb : Vec F S1x1x512 .i32) (P : FVec F S512x256 .f32) (p : F .f32) : F .f32 :=
  k0_pay1 (k0_pay32 (k0_pay18 (k0_pay6 xb) cols) P) p

/-- The logarithms of the one-step rows at the drawn tokens. -/
def stepLogs (z : Vec F S512x256 .f32) (x6 x7 : Vec F S1x8x256 .f32) : FVec F S512x256 .f32 :=
  k0_pay35 k0_pay21 (k0_pay22 z) (k0_pay23 z) (k0_pay33 (k0_pay12 (cellL0 x7)) (k0_pay13 (cellLL x7)) (k0_pay19 cols)) (k0_pay34 (k0_pay11 (cell00 x6)))

/-- A payload of the true posterior at the tile's operands. -/
abbrev atTrue {α : Type} (k : Elt F .i32 → IVec S512x256 1 → IVec S512x256 1 → F .f32 → FVec F S512x256 .f32 → F .f32 → FVec F S1x1 .f32 → FVec F S512x1 .f32 → FVec F S1x1 .f32 → α)
    (t : Elt F .i32) (xb : Vec F S1x1x512 .i32) (L1 : FVec F S512x256 .f32) (x8 x9 : Vec F S1x8x256 .f32) : α :=
  k t (k0_pay18 (k0_pay6 xb) cols) (k0_pay19 cols) k0_pay21 L1 k0_pay36 (k0_pay41 (k0_pay14 (cell00 x8)) k0_pay21)
    (k0_pay42 (k0_pay15 (cell0L x8)) (k0_pay16 (cellLL x9)) (k0_pay20 (k0_pay6 xb)) k0_pay21) (k0_pay43 (k0_pay14 (cell00 x8)) k0_pay21)

/-- A payload of the predicted posterior at the tile's operands. -/
abbrev atPred {α : Type} (k : Elt F .i32 → FVec F S1x1 .f32 → FVec F S1x1 .f32 → FVec F S1x1 .f32 → IVec S512x256 1 → FVec F S512x256 .f32 → FVec F S512x256 .f32 → FVec F S512x1 .f32 → FVec F S512x256 .f32 → α)
    (t : Elt F .i32) (P L1 : FVec F S512x256 .f32) (x8 x9 : Vec F S1x8x256 .f32) : α :=
  k t (k0_pay14 (cell00 x8)) (k0_pay15 (cell0L x8)) (k0_pay16 (cellLL x9)) (k0_pay19 cols) P (k0_pay30 P) (k0_pay31 P) L1

/-- The tile's variational bound added to the sum `p` so far. -/
def addVb (t : Elt F .i32) (xb : Vec F S1x1x512 .i32) (P L1 : FVec F S512x256 .f32) (x8 x9 : Vec F S1x8x256 .f32) (p : F .f32) : F .f32 :=
  k0_pay2 (atPred k0_pay45 t P L1 x8 x9) (atTrue k0_pay47 t xb L1 x8 x9) (atTrue k0_pay48 t xb L1 x8 x9) (atTrue k0_pay49 t xb L1 x8 x9)
    (atPred k0_pay50 t P L1 x8 x9) (atPred k0_pay51 t P L1 x8 x9) p

/-- A scalar output's cell. -/
abbrev scalarCell (x : Vec F S1x1 .f32) : F .f32 := x (ValueIdx.ix2 0 0)

theorem hz2 : (![0, 0] : Fin 2 → Nat) = fun _ => 0 := funext fun a => by fin_cases a <;> rfl
theorem hz3 : (![0, 0, 0] : Fin 3 → Nat) = fun _ => 0 := funext fun a => by fin_cases a <;> rfl

theorem ld_cell (x : Vec F S1x1 .f32) (inb) (j : S1x1.Idx) : View.ld x (Rect.unit (s := S1x1) ![0, 0] ![1, 1] inb) j = scalarCell x := by
  refine (congrFun (View.ld_unit_zero (S := S1x1) (Val := Elt F) (e := .f32) hz2 inb x) j).trans ?_
  refine congrArg x (funext fun (a : Fin 2) => ?_)
  match a with
  | ⟨0, _⟩ => exact Subsingleton.elim (α := Fin 1) _ _
  | ⟨1, _⟩ => exact Subsingleton.elim (α := Fin 1) _ _

theorem word_read (c : Dev nD) (xt0 : TbBuf0 (F := F) c tbM0_0) (i : grid0.Coords) (inb) (h) :
    (View.ld (View.read (Elt F) (View.whole main_arg1) xt0) (Rect.unit (s := S4) ![BitVec.toNat (Scalar.indexCast (BitVec.ofNat 32 (i 0).val))] ![1] inb) (Shape.Idx.first h) : BitVec 32)
      = xt0 (ValueIdx.ix1 (i 0)) := by
  have hb : (BitVec.toNat (Scalar.indexCast (BitVec.ofNat 32 (i 0).val)) : Nat) = (i 0).val := by
    have h : ∀ b : Fin 4, (BitVec.toNat (Scalar.indexCast (BitVec.ofNat 32 b.val)) : Nat) = b.val := by decide
    exact h (i 0)
  refine congrArg xt0 (funext fun (a : Fin 1) => Fin.ext ?_)
  match a with
  | ⟨0, _⟩ => exact (Nat.add_zero _).trans hb
  | ⟨n + 1, hn⟩ => exact absurd hn (by omega)

variable (c : Dev nD) (i : grid0.Coords) (arg3 : Memref sig .tc .vmem S1x1x512 .i32) (harg3 : arg3.IsWhole) (arg4 : Memref sig .tc .vmem S1x512x256 .f32) (harg4 : arg4.IsWhole) (arg5 : Memref sig .tc .vmem S1x1x512 .i32) (harg5 : arg5.IsWhole) (arg6 : Memref sig .tc .vmem S1x512x256 .f32) (harg6 : arg6.IsWhole) (arg7 : Memref sig .tc .vmem S1x8x256 .f32) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S256x1024 .f32) (harg13 : arg13.IsWhole) (arg14 : Memref sig .tc .vmem S1x1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x256 .f32) (harg17 : arg17.IsWhole) (arg18 : Memref sig .tc .vmem S1x256 .f32) (harg18 : arg18.IsWhole) (arg19 : Memref sig .tc .smem S1x1 .f32) (harg19 : arg19.IsWhole) (arg20 : Memref sig .tc .smem S1x1 .f32) (harg20 : arg20.IsWhole) (arg21 : Memref sig .tc .vmem S512x256 .f32) (harg21 : arg21.IsWhole)
  (x0 : Vec F S1x1x512 .i32) (x1 : Vec F S1x512x256 .f32) (x2 : Vec F S1x1x512 .i32) (x3 : Vec F S1x512x256 .f32) (x4 : Vec F S1x8x256 .f32) (x5 : Vec F S1x8x256 .f32) (x6 : Vec F S1x8x256 .f32) (x7 : Vec F S1x8x256 .f32) (x8 : Vec F S1x8x256 .f32) (x9 : Vec F S1x8x256 .f32) (x10 : Vec F S256x1024 .f32) (x11 : Vec F S1x1x1024 .f32) (x12 : Vec F S1024x1024 .f32) (x13 : Vec F S1x1024 .f32) (x14 : Vec F S1024x256 .f32) (x15 : Vec F S1x256 .f32) (xt0 : TbBuf0 (F := F) c tbM0_0)

section Later

variable (hc0 : ¬cond0_0 i) (xo16 : Vec F S1x1 .f32) (xo17 : Vec F S1x1 .f32) (xs0 : Vec F S512x256 .f32)

/-- A later point leaves its cross entropy added to the sum before. -/
theorem ceLater : out0_B_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0 = fun _ => addCe x0 (predicted xs0 x10 x11 x12 x13 x14 x15) (scalarCell xo16) := by
  unfold out0_B_16
  rw [View.read_writes_eq_canon _ _ _ (cover0_B_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0)]
  unfold kernelRun0_B
  dsimp only
  sl_unfold_words
  refine (View.canon_unit_zero (S := S1x1) (Val := Elt F) hz2 _ _).trans ?_
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1x512) hz3, View.ld_unit_zero (S := S1x512x256) hz3, View.ld_unit_zero (S := S512x256) hz2, View.ld_unit_zero (S := S256x1024) hz2, View.ld_unit_zero (S := S1x1x1024) hz3, View.ld_unit_zero (S := S1024x1024) hz2, View.ld_unit_zero (S := S1x1024) hz2, View.ld_unit_zero (S := S1024x256) hz2, View.ld_unit_zero (S := S1x256) hz2]
  exact funext fun _ => congrArg (addCe x0 (predicted xs0 x10 x11 x12 x13 x14 x15)) (ld_cell xo16 _ _)

/-- A later point leaves its variational bound added to the sum before. -/
theorem vbLater : out0_B_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0 = fun _ => addVb (xt0 (ValueIdx.ix1 (i 0))) x0 (predicted xs0 x10 x11 x12 x13 x14 x15) (stepLogs xs0 x6 x7) x8 x9 (scalarCell xo17) := by
  unfold out0_B_17
  rw [View.read_writes_eq_canon _ _ _ (cover0_B_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0)]
  unfold kernelRun0_B
  dsimp only
  sl_unfold_words
  refine (View.canon_unit_zero (S := S1x1) (Val := Elt F) hz2 _ _).trans ?_
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1x512) hz3, View.ld_unit_zero (S := S1x512x256) hz3, View.ld_unit_zero (S := S512x256) hz2, View.ld_unit_zero (S := S256x1024) hz2, View.ld_unit_zero (S := S1x1x1024) hz3, View.ld_unit_zero (S := S1024x1024) hz2, View.ld_unit_zero (S := S1x1024) hz2, View.ld_unit_zero (S := S1024x256) hz2, View.ld_unit_zero (S := S1x256) hz2]
  exact funext fun _ => congrArg₂ (fun t p => addVb t x0 (predicted xs0 x10 x11 x12 x13 x14 x15) (stepLogs xs0 x6 x7) x8 x9 p) (word_read c xt0 i _ _) (ld_cell xo17 _ _)

/-- A later point leaves the next tile's rows drawn. -/
theorem drawLater : sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0 = drawNext x2 x3 x4 x5 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 xo16 xo17 xs0)]
  unfold kernelRun0_B
  dsimp only
  sl_unfold_words
  refine (View.canon_unit_zero (S := S512x256) (Val := Elt F) hz2 _ _).trans ?_
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1x512) hz3, View.ld_unit_zero (S := S1x512x256) hz3, View.ld_unit_zero (S := S512x256) hz2, View.ld_unit_zero (S := S256x1024) hz2, View.ld_unit_zero (S := S1x1x1024) hz3, View.ld_unit_zero (S := S1024x1024) hz2, View.ld_unit_zero (S := S1x1024) hz2, View.ld_unit_zero (S := S1024x256) hz2, View.ld_unit_zero (S := S1x256) hz2]
  rfl

end Later

section First

variable (hc0 : cond0_0 i)

/-- The first point draws its own tile's rows and leaves its cross entropy added to nothing. -/
theorem ceFirst : out0_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 = fun _ => addCe x0 (predicted (drawFirst x0 x1 x4 x5) x10 x11 x12 x13 x14 x15) (Scalar.ofBits .f32 0x00000000#32) := by
  unfold out0_A_16
  rw [View.read_writes_eq_canon _ _ _ (cover0_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0)]
  unfold kernelRun0_A
  dsimp only
  sl_unfold_words
  refine (View.canon_cons_unit_zero (S := S1x1) (Val := Elt F) hz2 _ _ _).trans ?_
  rw [View.readCov_unit_zero (S := S512x256) (Val := Elt F) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1x512) hz3, View.ld_unit_zero (S := S1x512x256) hz3, View.ld_unit_zero (S := S512x256) hz2, View.ld_unit_zero (S := S256x1024) hz2, View.ld_unit_zero (S := S1x1x1024) hz3, View.ld_unit_zero (S := S1024x1024) hz2, View.ld_unit_zero (S := S1x1024) hz2, View.ld_unit_zero (S := S1024x256) hz2, View.ld_unit_zero (S := S1x256) hz2]
  exact funext fun _ => congrArg (addCe x0 (predicted (drawFirst x0 x1 x4 x5) x10 x11 x12 x13 x14 x15)) rfl

/-- The first point leaves its variational bound added to nothing. -/
theorem vbFirst : out0_A_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 = fun _ => addVb (xt0 (ValueIdx.ix1 (i 0))) x0 (predicted (drawFirst x0 x1 x4 x5) x10 x11 x12 x13 x14 x15) (stepLogs (drawFirst x0 x1 x4 x5) x6 x7) x8 x9 (Scalar.ofBits .f32 0x00000000#32) := by
  unfold out0_A_17
  rw [View.read_writes_eq_canon _ _ _ (cover0_A_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0)]
  unfold kernelRun0_A
  dsimp only
  sl_unfold_words
  refine (View.canon_cons_unit_zero (S := S1x1) (Val := Elt F) hz2 _ _ _).trans ?_
  rw [View.readCov_unit_zero (S := S512x256) (Val := Elt F) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1x512) hz3, View.ld_unit_zero (S := S1x512x256) hz3, View.ld_unit_zero (S := S512x256) hz2, View.ld_unit_zero (S := S256x1024) hz2, View.ld_unit_zero (S := S1x1x1024) hz3, View.ld_unit_zero (S := S1024x1024) hz2, View.ld_unit_zero (S := S1x1024) hz2, View.ld_unit_zero (S := S1024x256) hz2, View.ld_unit_zero (S := S1x256) hz2]
  exact funext fun _ => congrArg₂ (fun t p => addVb t x0 (predicted (drawFirst x0 x1 x4 x5) x10 x11 x12 x13 x14 x15) (stepLogs (drawFirst x0 x1 x4 x5) x6 x7) x8 x9 p) (word_read c xt0 i _ _) rfl

/-- The first point leaves the next tile's rows drawn. -/
theorem drawAfterFirst : sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0 = drawNext x2 x3 x4 x5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xt0)]
  unfold kernelRun0_A
  dsimp only
  sl_unfold_words
  refine (View.canon_cons_unit_zero (S := S512x256) (Val := Elt F) hz2 _ _ _).trans ?_
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1x512) hz3, View.ld_unit_zero (S := S1x512x256) hz3, View.ld_unit_zero (S := S512x256) hz2, View.ld_unit_zero (S := S256x1024) hz2, View.ld_unit_zero (S := S1x1x1024) hz3, View.ld_unit_zero (S := S1024x1024) hz2, View.ld_unit_zero (S := S1x1024) hz2, View.ld_unit_zero (S := S1024x256) hz2, View.ld_unit_zero (S := S1x256) hz2]
  rfl

end First

end Cert.KernelIdealPoint

end
-- ==== Proof.KernelPoints.lean ====
/- What each grid point leaves in the cross entropy's cell and in the scratch, over the windows' contents. -/
module

public import proofs.«01_k».proof.Proof.KernelIdealPoint

@[expose] public section

set_option maxRecDepth 16384

noncomputable section

namespace Cert.KernelPoints

open Cert.KernelIdeal Cert.KernelIdeal.Gen Cert.KernelIdealPoint Idealize.ShloMosaic Idealize.ShloMosaic.TcCoe Idealize.SL.Sem

variable {F : FTy → Type} [FloatOps F]
variable (m : (ℓ : Loc nD τ sig) → Buf (Elt F) ℓ) (hO : Ok m) (c : Dev nD) (t : Fin (cfgM m hO).N)

/-- The predicted logits of the tile at hand, whose drawn rows are `z`. -/
def predictedAt (z : Vec F S512x256 .f32) : FVec F S512x256 .f32 :=
  predicted z (iblk m hO c 10 t) (iblk m hO c 11 t) (iblk m hO c 12 t) (iblk m hO c 13 t) (iblk m hO c 14 t) (iblk m hO c 15 t)

/-- The rows drawn for the first tile at its own point; and for the next tile at any point. -/
def firstRows : FVec F S512x256 .f32 := drawFirst (iblk m hO c 0 t) (iblk m hO c 1 t) (iblk m hO c 4 t) (iblk m hO c 5 t)
def nextRows : FVec F S512x256 .f32 := drawNext (iblk m hO c 2 t) (iblk m hO c 3 t) (iblk m hO c 4 t) (iblk m hO c 5 t)

theorem ce_first (h0 : t.val % 16 = 0) :
    (outsAt0 m hO c t.val t.isLt).1 = fun _ => addCe (iblk m hO c 0 t) (predictedAt m hO c t (firstRows m hO c t)) (Scalar.ofBits .f32 0x00000000#32) := by
  rw [outsAt0_A m hO c t h0]
  dsimp only
  exact ceFirst (F := F) ..

theorem rows_first (h0 : t.val % 16 = 0) : (outsAt0 m hO c t.val t.isLt).2.2 = nextRows m hO c t := by
  rw [outsAt0_A m hO c t h0]
  dsimp only
  exact drawAfterFirst (F := F) ..

theorem ce_later (h0 : ¬t.val % 16 = 0) (p : Vec F S1x1 .f32 × Vec F S1x1 .f32 × Vec F S512x256 .f32)
    (hp : outsAt0 m hO c (t.val - 1) (Nat.lt_of_le_of_lt (Nat.sub_le _ _) t.isLt) = p) :
    (outsAt0 m hO c t.val t.isLt).1 = fun _ => addCe (iblk m hO c 0 t) (predictedAt m hO c t p.2.2) (scalarCell p.1) := by
  rw [outsAt0_B m hO c t h0, hp]
  dsimp only
  exact ceLater (F := F) ..

theorem rows_later (h0 : ¬t.val % 16 = 0) : (outsAt0 m hO c t.val t.isLt).2.2 = nextRows m hO c t := by
  rw [outsAt0_B m hO c t h0]
  dsimp only
  exact drawLater (F := F) ..

end Cert.KernelPoints

end
-- ==== Proof.KernelWindows.lean ====
/- What each window of the kernel holds at a grid point, entry by entry: an entry of one of the launch's arguments. -/
module

public import proofs.«01_k».proof.Proof.KernelIdealFrame
public import proofs.«01_k».proof.Proof.KernelIdealTables
public import Idealize.ShloMosaic.Lib.Pointwise
public import Idealize.ShloMosaic.Lib.ValueIdx

@[expose] public section

set_option maxRecDepth 16384

noncomputable section

namespace Cert.KernelWindows

open Cert.KernelIdeal Cert.KernelIdeal.Gen Cert.KernelIdealTables Idealize.ShloMosaic Idealize.ShloMosaic.TcCoe Idealize.SL.Sem

variable {F : FTy → Type} [FloatOps F]
variable (m : (ℓ : Loc nD τ sig) → Buf (Elt F) ℓ)

/-! ## The arrays the host lines reshape before the region -/

theorem V_v0 (c : Dev nD) : V m c main_v0 = shapeCast _ (m ((c : Thread nD τ).loc main_arg0)) shapeCasts_S4x2048_S16x1x512 := by
  simp only [V, V0, List.flatten_cons, List.flatten_nil, List.append_nil, StableHlo.after_cons, StableHlo.after_nil, hostOps0]
  rw [StableHlo.reshape_result_ne _ _ _ _ _ _ _ (by decide), StableHlo.reshape_result_ne _ _ _ _ _ _ _ (by decide), StableHlo.reshape_result_ne _ _ _ _ _ _ _ (by decide), StableHlo.reshape_result]
  rfl

theorem V_v1 (c : Dev nD) : V m c main_v1 = shapeCast _ (m ((c : Thread nD τ).loc main_arg6)) shapeCasts_S101x1024_S101x1x1024 := by
  simp only [V, V0, List.flatten_cons, List.flatten_nil, List.append_nil, StableHlo.after_cons, StableHlo.after_nil, hostOps0]
  rw [StableHlo.reshape_result_ne _ _ _ _ _ _ _ (by decide), StableHlo.reshape_result_ne _ _ _ _ _ _ _ (by decide), StableHlo.reshape_result, StableHlo.reshape_result_ne _ _ _ _ _ _ _ (by decide)]
  rfl

theorem V_v2 (c : Dev nD) : V m c main_v2 = shapeCast _ (m ((c : Thread nD τ).loc main_arg8)) shapeCasts_S1024_S1x1024 := by
  simp only [V, V0, List.flatten_cons, List.flatten_nil, List.append_nil, StableHlo.after_cons, StableHlo.after_nil, hostOps0]
  rw [StableHlo.reshape_result_ne _ _ _ _ _ _ _ (by decide), StableHlo.reshape_result, StableHlo.reshape_result_ne _ _ _ _ _ _ _ (by decide), StableHlo.reshape_result_ne _ _ _ _ _ _ _ (by decide)]
  rfl

theorem V_v3 (c : Dev nD) : V m c main_v3 = shapeCast _ (m ((c : Thread nD τ).loc main_arg10)) shapeCasts_S256_S1x256 := by
  simp only [V, V0, List.flatten_cons, List.flatten_nil, List.append_nil, StableHlo.after_cons, StableHlo.after_nil, hostOps0]
  rw [StableHlo.reshape_result, StableHlo.reshape_result_ne _ _ _ _ _ _ _ (by decide), StableHlo.reshape_result_ne _ _ _ _ _ _ _ (by decide), StableHlo.reshape_result_ne _ _ _ _ _ _ _ (by decide)]
  rfl

/-! ## The windows -/

theorem index0 : ∀ t : Fin grid0.N, cc0_transform_0 (grid0.coords t) = ![t.val, 0, 0] := by decide +kernel

theorem win0 (hO : Ok m) (c : Dev nD) (t : Fin (cfgM m hO).N) (r : Fin 512) :
    iblk m hO c 0 t (ValueIdx.ix3 0 0 r) = V m c main_v0 (ValueIdx.ix3 (⟨t.val, t.isLt⟩ : Fin 16) 0 r) := by
  unfold iblk
  refine (View.read_apply ..).trans ?_
  show V m c main_v0 _ = _
  congr 1
  funext a
  apply Fin.ext
  match a with
  | ⟨0, _⟩ =>
    show cc0_transform_0 (grid0.coords t) 0 * 1 + 1 * 0 = t.val
    rw [index0 t]; simp
  | ⟨1, _⟩ =>
    show cc0_transform_0 (grid0.coords t) 1 * 1 + 1 * 0 = 0
    rw [index0 t]; simp
  | ⟨2, _⟩ =>
    show cc0_transform_0 (grid0.coords t) 2 * 512 + 1 * r.val = r.val
    rw [index0 t]; simp

theorem index1 : ∀ t : Fin grid0.N, cc0_transform_1 (grid0.coords t) = ![0, 0, 0] := by decide +kernel

theorem win1 (hO : Ok m) (c : Dev nD) (t : Fin (cfgM m hO).N) (r : Fin 512) (k : Fin 256) :
    iblk m hO c 1 t (ValueIdx.ix3 0 r k) = m ((c : Thread nD τ).loc main_arg2) (ValueIdx.ix3 (0 : Fin 4) (⟨r.val, by omega⟩ : Fin 2048) k) := by
  unfold iblk
  refine (View.read_apply ..).trans ?_
  show V m c main_arg2 _ = _
  rw [V_main_arg2]
  congr 1
  funext a
  apply Fin.ext
  match a with
  | ⟨0, _⟩ =>
    show cc0_transform_1 (grid0.coords t) 0 * 1 + 1 * 0 = 0
    rw [index1 t]; simp
  | ⟨1, _⟩ =>
    show cc0_transform_1 (grid0.coords t) 1 * 512 + 1 * r.val = r.val
    rw [index1 t]; simp
  | ⟨2, _⟩ =>
    show cc0_transform_1 (grid0.coords t) 2 * 256 + 1 * k.val = k.val
    rw [index1 t]; simp

theorem index2 : ∀ t : Fin grid0.N, cc0_transform_2 (grid0.coords t) = ![min (t.val + 1) 15, 0, 0] := by decide +kernel

theorem win2 (hO : Ok m) (c : Dev nD) (t : Fin (cfgM m hO).N) (r : Fin 512) :
    iblk m hO c 2 t (ValueIdx.ix3 0 0 r) = V m c main_v0 (ValueIdx.ix3 (⟨min (t.val + 1) 15, by omega⟩ : Fin 16) 0 r) := by
  unfold iblk
  refine (View.read_apply ..).trans ?_
  show V m c main_v0 _ = _
  congr 1
  funext a
  apply Fin.ext
  match a with
  | ⟨0, _⟩ =>
    show cc0_transform_2 (grid0.coords t) 0 * 1 + 1 * 0 = min (t.val + 1) 15
    rw [index2 t]; simp
  | ⟨1, _⟩ =>
    show cc0_transform_2 (grid0.coords t) 1 * 1 + 1 * 0 = 0
    rw [index2 t]; simp
  | ⟨2, _⟩ =>
    show cc0_transform_2 (grid0.coords t) 2 * 512 + 1 * r.val = r.val
    rw [index2 t]; simp

theorem index3 : ∀ t : Fin grid0.N, cc0_transform_3 (grid0.coords t) = ![min (t.val + 1) 15 / 4, min (t.val + 1) 15 % 4, 0] := by decide +kernel

theorem win3 (hO : Ok m) (c : Dev nD) (t : Fin (cfgM m hO).N) (r : Fin 512) (k : Fin 256) :
    iblk m hO c 3 t (ValueIdx.ix3 0 r k) = m ((c : Thread nD τ).loc main_arg2) (ValueIdx.ix3 (⟨min (t.val + 1) 15 / 4, by omega⟩ : Fin 4) (⟨512 * (min (t.val + 1) 15 % 4) + r.val, by omega⟩ : Fin 2048) k) := by
  unfold iblk
  refine (View.read_apply ..).trans ?_
  show V m c main_arg2 _ = _
  rw [V_main_arg2]
  congr 1
  funext a
  apply Fin.ext
  match a with
  | ⟨0, _⟩ =>
    show cc0_transform_3 (grid0.coords t) 0 * 1 + 1 * 0 = min (t.val + 1) 15 / 4
    rw [index3 t]; simp [Nat.mul_comm]
  | ⟨1, _⟩ =>
    show cc0_transform_3 (grid0.coords t) 1 * 512 + 1 * r.val = 512 * (min (t.val + 1) 15 % 4) + r.val
    rw [index3 t]; simp [Nat.mul_comm]
  | ⟨2, _⟩ =>
    show cc0_transform_3 (grid0.coords t) 2 * 256 + 1 * k.val = k.val
    rw [index3 t]; simp [Nat.mul_comm]

theorem coords : ∀ t : Fin grid0.N, (nextBatch (grid0.coords t)).val = min (t.val + 1) 15 / 4 ∧ (grid0.coords t 0).val = t.val / 4 := by decide +kernel

theorem step_sub (s : Fin 100) : (Scalar.subi (BitVec.ofNat 32 (s.val + 1)) 1#32).toNat = s.val := by
  revert s; decide +kernel

theorem win4 (hO : Ok m) (c : Dev nD) (t : Fin (cfgM m hO).N) (y : Fin 8) (k : Fin 256) (s : Fin 100) (hs : word (tbl m) (nextBatch (grid0.coords t)) = BitVec.ofNat 32 (s.val + 1)) :
    iblk m hO c 4 t (ValueIdx.ix3 0 y k) = m ((c : Thread nD τ).loc main_arg4) (ValueIdx.ix3 s (⟨0 + y.val, by omega⟩ : Fin 256) k) := by
  unfold iblk
  refine (View.read_apply ..).trans ?_
  show V m c main_arg4 _ = _
  rw [V_main_arg4]
  congr 1
  funext a
  apply Fin.ext
  match a with
  | ⟨0, _⟩ =>
    show cc0_transform_4 k0_off1_inb numel1_S1 (tbl m) (grid0.coords t) 0 * 1 + 1 * 0 = s.val
    rw [map4, hs, step_sub]; simp
  | ⟨1, _⟩ =>
    show cc0_transform_4 k0_off1_inb numel1_S1 (tbl m) (grid0.coords t) 1 * 8 + 1 * y.val = 0 + y.val
    rw [map4, hs, step_sub]; simp
  | ⟨2, _⟩ =>
    show cc0_transform_4 k0_off1_inb numel1_S1 (tbl m) (grid0.coords t) 2 * 256 + 1 * k.val = k.val
    rw [map4, hs, step_sub]; simp

theorem win5 (hO : Ok m) (c : Dev nD) (t : Fin (cfgM m hO).N) (y : Fin 8) (k : Fin 256) (s : Fin 100) (hs : word (tbl m) (nextBatch (grid0.coords t)) = BitVec.ofNat 32 (s.val + 1)) :
    iblk m hO c 5 t (ValueIdx.ix3 0 y k) = m ((c : Thread nD τ).loc main_arg4) (ValueIdx.ix3 s (⟨248 + y.val, by omega⟩ : Fin 256) k) := by
  unfold iblk
  refine (View.read_apply ..).trans ?_
  show V m c main_arg4 _ = _
  rw [V_main_arg4]
  congr 1
  funext a
  apply Fin.ext
  match a with
  | ⟨0, _⟩ =>
    show cc0_transform_5 k0_off1_inb numel1_S1 (tbl m) (grid0.coords t) 0 * 1 + 1 * 0 = s.val
    rw [map5, hs, step_sub]; simp
  | ⟨1, _⟩ =>
    show cc0_transform_5 k0_off1_inb numel1_S1 (tbl m) (grid0.coords t) 1 * 8 + 1 * y.val = 248 + y.val
    rw [map5, hs, step_sub]; simp
  | ⟨2, _⟩ =>
    show cc0_transform_5 k0_off1_inb numel1_S1 (tbl m) (grid0.coords t) 2 * 256 + 1 * k.val = k.val
    rw [map5, hs, step_sub]; simp

theorem step_toNat (s : Fin 100) : (BitVec.ofNat 32 (s.val + 1)).toNat = s.succ.val := by
  revert s; decide +kernel

theorem win11 (hO : Ok m) (c : Dev nD) (t : Fin (cfgM m hO).N) (k : Fin 1024) (s : Fin 100) (hs : word (tbl m) (grid0.coords t 0) = BitVec.ofNat 32 (s.val + 1)) :
    iblk m hO c 11 t (ValueIdx.ix3 0 0 k) = V m c main_v1 (ValueIdx.ix3 s.succ 0 k) := by
  unfold iblk
  refine (View.read_apply ..).trans ?_
  show V m c main_v1 _ = _
  congr 1
  funext a
  apply Fin.ext
  match a with
  | ⟨0, _⟩ =>
    show cc0_transform_11 k0_off2_inb numel1_S1 (tbl m) (grid0.coords t) 0 * 1 + 1 * 0 = s.succ.val
    rw [map11, hs, step_toNat]; simp
  | ⟨1, _⟩ =>
    show cc0_transform_11 k0_off2_inb numel1_S1 (tbl m) (grid0.coords t) 1 * 1 + 1 * 0 = 0
    rw [map11, hs, step_toNat]; simp
  | ⟨2, _⟩ =>
    show cc0_transform_11 k0_off2_inb numel1_S1 (tbl m) (grid0.coords t) 2 * 1024 + 1 * k.val = k.val
    rw [map11, hs, step_toNat]; simp

theorem index10 : ∀ t : Fin grid0.N, cc0_transform_10 (grid0.coords t) = ![0, 0] := by decide +kernel

theorem win10 (hO : Ok m) (c : Dev nD) (t : Fin (cfgM m hO).N) (y : Fin 256) (k : Fin 1024) :
    iblk m hO c 10 t (ValueIdx.ix2 y k) = m ((c : Thread nD τ).loc main_arg5) (ValueIdx.ix2 y k) := by
  unfold iblk
  refine (View.read_apply ..).trans ?_
  show V m c main_arg5 _ = _
  rw [V_main_arg5]
  congr 1
  funext a
  apply Fin.ext
  match a with
  | ⟨0, _⟩ =>
    show cc0_transform_10 (grid0.coords t) 0 * 256 + 1 * y.val = y.val
    rw [index10 t]; simp
  | ⟨1, _⟩ =>
    show cc0_transform_10 (grid0.coords t) 1 * 1024 + 1 * k.val = k.val
    rw [index10 t]; simp

theorem index12 : ∀ t : Fin grid0.N, cc0_transform_12 (grid0.coords t) = ![0, 0] := by decide +kernel

theorem win12 (hO : Ok m) (c : Dev nD) (t : Fin (cfgM m hO).N) (y : Fin 1024) (k : Fin 1024) :
    iblk m hO c 12 t (ValueIdx.ix2 y k) = m ((c : Thread nD τ).loc main_arg7) (ValueIdx.ix2 y k) := by
  unfold iblk
  refine (View.read_apply ..).trans ?_
  show V m c main_arg7 _ = _
  rw [V_main_arg7]
  congr 1
  funext a
  apply Fin.ext
  match a with
  | ⟨0, _⟩ =>
    show cc0_transform_12 (grid0.coords t) 0 * 1024 + 1 * y.val = y.val
    rw [index12 t]; simp
  | ⟨1, _⟩ =>
    show cc0_transform_12 (grid0.coords t) 1 * 1024 + 1 * k.val = k.val
    rw [index12 t]; simp

theorem index13 : ∀ t : Fin grid0.N, cc0_transform_13 (grid0.coords t) = ![0, 0] := by decide +kernel

theorem win13 (hO : Ok m) (c : Dev nD) (t : Fin (cfgM m hO).N) (k : Fin 1024) :
    iblk m hO c 13 t (ValueIdx.ix2 (0 : Fin 1) k) = V m c main_v2 (ValueIdx.ix2 (0 : Fin 1) k) := by
  unfold iblk
  refine (View.read_apply ..).trans ?_
  show V m c main_v2 _ = _
  congr 1
  funext a
  apply Fin.ext
  match a with
  | ⟨0, _⟩ =>
    show cc0_transform_13 (grid0.coords t) 0 * 1 + 1 * 0 = 0
    rw [index13 t]; simp
  | ⟨1, _⟩ =>
    show cc0_transform_13 (grid0.coords t) 1 * 1024 + 1 * k.val = k.val
    rw [index13 t]; simp

theorem index14 : ∀ t : Fin grid0.N, cc0_transform_14 (grid0.coords t) = ![0, 0] := by decide +kernel

theorem win14 (hO : Ok m) (c : Dev nD) (t : Fin (cfgM m hO).N) (y : Fin 1024) (k : Fin 256) :
    iblk m hO c 14 t (ValueIdx.ix2 y k) = m ((c : Thread nD τ).loc main_arg9) (ValueIdx.ix2 y k) := by
  unfold iblk
  refine (View.read_apply ..).trans ?_
  show V m c main_arg9 _ = _
  rw [V_main_arg9]
  congr 1
  funext a
  apply Fin.ext
  match a with
  | ⟨0, _⟩ =>
    show cc0_transform_14 (grid0.coords t) 0 * 1024 + 1 * y.val = y.val
    rw [index14 t]; simp
  | ⟨1, _⟩ =>
    show cc0_transform_14 (grid0.coords t) 1 * 256 + 1 * k.val = k.val
    rw [index14 t]; simp

theorem index15 : ∀ t : Fin grid0.N, cc0_transform_15 (grid0.coords t) = ![0, 0] := by decide +kernel

theorem win15 (hO : Ok m) (c : Dev nD) (t : Fin (cfgM m hO).N) (k : Fin 256) :
    iblk m hO c 15 t (ValueIdx.ix2 (0 : Fin 1) k) = V m c main_v3 (ValueIdx.ix2 (0 : Fin 1) k) := by
  unfold iblk
  refine (View.read_apply ..).trans ?_
  show V m c main_v3 _ = _
  congr 1
  funext a
  apply Fin.ext
  match a with
  | ⟨0, _⟩ =>
    show cc0_transform_15 (grid0.coords t) 0 * 1 + 1 * 0 = 0
    rw [index15 t]; simp
  | ⟨1, _⟩ =>
    show cc0_transform_15 (grid0.coords t) 1 * 256 + 1 * k.val = k.val
    rw [index15 t]; simp

end Cert.KernelWindows

end
-- ==== Proof.KernelEntries.lean ====
/- What the windows the cross entropy reads hold at a grid point, as entries of the launch's arguments at the tile of that
   point: the tile's tokens, the next tile's tokens and noise, the transition matrix of a batch entry, the weights. -/
module

public import proofs.«01_k».proof.Proof.KernelWindows
public import Idealize.ShloMosaic.Lib.Pointwise

@[expose] public section

set_option maxRecDepth 16384

noncomputable section

namespace Cert.KernelEntries

open Cert.KernelIdeal Cert.KernelIdeal.Gen Cert.KernelIdealTables Idealize.ShloMosaic Idealize.ShloMosaic.TcCoe Idealize.SL.Sem

/-- The batch entry of a tile, and the position in it of a tile's row. -/
def tb (k : Fin 16) : Fin 4 := ⟨k.val / 4, by omega⟩
def tl (k : Fin 16) (r : Fin 512) : Fin 2048 := ⟨512 * (k.val % 4) + r.val, by omega⟩

/-- The tile after a tile, clipped at the last. -/
def after (k : Fin 16) : Fin 16 := ⟨min (k.val + 1) 15, by omega⟩

theorem b1 {a : Nat} (i : Fin a) : ValueIdx.ix1 i = ix1 i := rfl
theorem b2 {a b : Nat} (i : Fin a) (j : Fin b) : ValueIdx.ix2 i j = ix2 i j := rfl
theorem b3 {a b c : Nat} (i : Fin a) (j : Fin b) (k : Fin c) : ValueIdx.ix3 i j k = ix3 i j k := rfl

/-! ## The arrays the host lines reshape -/

theorem v0_apply {α : Type} (a : S4x2048.Idx → α) (k : Fin 16) (r : Fin 512) :
    shapeCast S16x1x512 a shapeCasts_S4x2048_S16x1x512 (ix3 k 0 r) = a (ix2 (tb k) (tl k r)) := by
  pointwise
  congr 2
  apply Fin.ext
  show k.val % 4 * 512 + r.val = 512 * (k.val % 4) + r.val
  omega

theorem v1_apply {α : Type} (a : S101x1024.Idx → α) (k : Fin 101) (r : Fin 1024) :
    shapeCast S101x1x1024 a shapeCasts_S101x1024_S101x1x1024 (ix3 k 0 r) = a (ix2 k r) := by
  pointwise

theorem v2_apply {α : Type} (a : S1024.Idx → α) (r : Fin 1024) :
    shapeCast S1x1024 a shapeCasts_S1024_S1x1024 (ix2 0 r) = a (ix1 r) := by
  pointwise

theorem v3_apply {α : Type} (a : S256.Idx → α) (r : Fin 256) :
    shapeCast S1x256 a shapeCasts_S256_S1x256 (ix2 0 r) = a (ix1 r) := by
  pointwise

/-! ## The windows -/

variable {F : FTy → Type} [FloatOps F]
variable (m : (ℓ : Loc nD τ sig) → Buf (Elt F) ℓ) (hO : Ok m) (c : Dev nD) (t : Fin (cfgM m hO).N)

/-- A grid point as a tile's number. -/
def tile {m : (ℓ : Loc nD τ sig) → Buf (Elt F) ℓ} {hO : Ok m} (t : Fin (cfgM m hO).N) : Fin 16 := ⟨t.val, t.isLt⟩

theorem tokens (r : Fin 512) : iblk m hO c 0 t (ix3 0 0 r) = m ((c : Thread nD τ).loc main_arg0) (ix2 (tb (tile t)) (tl (tile t) r)) := by
  refine (KernelWindows.win0 m hO c t r).trans ?_
  rw [KernelWindows.V_v0]
  exact v0_apply _ (tile t) r

theorem noise0 (r : Fin 512) (k : Fin 256) : iblk m hO c 1 t (ix3 0 r k) = m ((c : Thread nD τ).loc main_arg2) (ix3 (tb 0) (tl 0 r) k) := by
  refine (KernelWindows.win1 m hO c t r k).trans (congrArg (fun l => m ((c : Thread nD τ).loc main_arg2) (ix3 (0 : Fin 4) l k)) (Fin.ext ?_))
  show r.val = 512 * (0 % 4) + r.val
  omega

theorem tokensNext (r : Fin 512) : iblk m hO c 2 t (ix3 0 0 r) = m ((c : Thread nD τ).loc main_arg0) (ix2 (tb (after (tile t))) (tl (after (tile t)) r)) := by
  refine (KernelWindows.win2 m hO c t r).trans ?_
  rw [KernelWindows.V_v0]
  exact v0_apply _ (after (tile t)) r

theorem noiseNext (r : Fin 512) (k : Fin 256) : iblk m hO c 3 t (ix3 0 r k) = m ((c : Thread nD τ).loc main_arg2) (ix3 (tb (after (tile t))) (tl (after (tile t)) r) k) :=
  KernelWindows.win3 m hO c t r k

theorem nextBatch_eq : nextBatch (grid0.coords t) = tb (after (tile t)) := Fin.ext (KernelWindows.coords t).1

theorem batch_eq : grid0.coords t 0 = tb (tile t) := Fin.ext (KernelWindows.coords t).2

variable (s : Fin 4 → Fin 100) (hs : ∀ b, word (tbl m) b = BitVec.ofNat 32 ((s b).val + 1))

include hs in
theorem top (k : Fin 256) : iblk m hO c 4 t (ix3 0 0 k) = m ((c : Thread nD τ).loc main_arg4) (ix3 (s (tb (after (tile t)))) 0 k) :=
  KernelWindows.win4 m hO c t 0 k (s (tb (after (tile t)))) (by rw [nextBatch_eq]; exact hs _)

include hs in
theorem bottom (k : Fin 256) : iblk m hO c 5 t (ix3 0 7 k) = m ((c : Thread nD τ).loc main_arg4) (ix3 (s (tb (after (tile t)))) 255 k) :=
  KernelWindows.win5 m hO c t 7 k (s (tb (after (tile t)))) (by rw [nextBatch_eq]; exact hs _)

theorem embedding (y : Fin 256) (k : Fin 1024) : iblk m hO c 10 t (ix2 y k) = m ((c : Thread nD τ).loc main_arg5) (ix2 y k) :=
  KernelWindows.win10 m hO c t y k

include hs in
theorem stepRow (k : Fin 1024) : iblk m hO c 11 t (ix3 0 0 k) = m ((c : Thread nD τ).loc main_arg6) (ix2 (s (tb (tile t))).succ k) := by
  refine (KernelWindows.win11 m hO c t k (s (tb (tile t))) (by rw [batch_eq]; exact hs _)).trans ?_
  rw [KernelWindows.V_v1]
  exact v1_apply _ _ k

theorem weight1 (y k : Fin 1024) : iblk m hO c 12 t (ix2 y k) = m ((c : Thread nD τ).loc main_arg7) (ix2 y k) :=
  KernelWindows.win12 m hO c t y k

theorem bias1 (k : Fin 1024) : iblk m hO c 13 t (ix2 0 k) = m ((c : Thread nD τ).loc main_arg8) (ix1 k) := by
  refine (KernelWindows.win13 m hO c t k).trans ?_
  rw [KernelWindows.V_v2]
  exact v2_apply _ k

theorem weight2 (y : Fin 1024) (k : Fin 256) : iblk m hO c 14 t (ix2 y k) = m ((c : Thread nD τ).loc main_arg9) (ix2 y k) :=
  KernelWindows.win14 m hO c t y k

theorem bias2 (k : Fin 256) : iblk m hO c 15 t (ix2 0 k) = m ((c : Thread nD τ).loc main_arg10) (ix1 k) := by
  refine (KernelWindows.win15 m hO c t k).trans ?_
  rw [KernelWindows.V_v3]
  exact v3_apply _ k

end Cert.KernelEntries

end
-- ==== Proof.TileCells.lean ====
/- The three cells of a transition matrix's corner blocks that the sampling reads. -/
module

public import proofs.«01_k».proof.Proof.KernelIdealPoint
public import Idealize.ShloMosaic.Lib.Pointwise

@[expose] public section

set_option maxRecDepth 16384

noncomputable section

namespace Cert.TileCells

open Cert.KernelIdeal Cert.KernelIdeal.Gen Cert.KernelIdealPoint Idealize.ShloMosaic

theorem kept (x : Vec Ideal S1x8x256 .f32) : k0_pay7 (F := Ideal) (cell00 x) (ix2 0 0) = x (ix3 0 0 0) := by
  unfold k0_pay7
  pointwise
  refine congrArg x (funext fun a => Fin.ext ?_)
  match a with
  | ⟨0, _⟩ => rfl
  | ⟨1, _⟩ => rfl
  | ⟨2, _⟩ => rfl

theorem absorbed (x : Vec Ideal S1x8x256 .f32) : k0_pay8 (F := Ideal) (cell0L x) (ix2 0 0) = x (ix3 0 0 255) := by
  unfold k0_pay8
  pointwise
  refine congrArg x (funext fun a => Fin.ext ?_)
  match a with
  | ⟨0, _⟩ => rfl
  | ⟨1, _⟩ => rfl
  | ⟨2, _⟩ => rfl

theorem last (x : Vec Ideal S1x8x256 .f32) : k0_pay9 (F := Ideal) (cellLL x) (ix2 0 0) = x (ix3 0 7 255) := by
  unfold k0_pay9
  pointwise
  refine congrArg x (funext fun a => Fin.ext ?_)
  match a with
  | ⟨0, _⟩ => rfl
  | ⟨1, _⟩ => rfl
  | ⟨2, _⟩ => rfl

end Cert.TileCells

end
-- ==== Proof.TileRows.lean ====
/- The kernel's two ways of drawing a tile's rows, row by row. -/
module

public import proofs.«01_k».proof.Proof.TileLogits

@[expose] public section

set_option maxRecDepth 16384

noncomputable section

namespace Cert.Tile

open Cert.KernelIdeal Cert.KernelIdeal.Gen Idealize.ShloMosaic Cert.Rows

variable (r : Fin 512) (k : Fin 256)

/-- Logits and noise, added. -/
def sumNoise (L M : FVec Ideal S512x256 .f32) : FVec Ideal S512x256 .f32 := addf L (subf (broadcast S512x256 (Scalar.ofBits .f32 0x00000000#32)) (log M))

theorem sumNoise_apply (L M : FVec Ideal S512x256 .f32) : sumNoise L M (ix2 r k) = L (ix2 r k) + (0 - Ideal.log (M (ix2 r k))) := by
  pointwise [sumNoise]

theorem pay28_eq (L M : FVec Ideal S512x256 .f32) : k0_pay28 (F := Ideal) cols L M = hot (sumNoise L M) := by
  unfold k0_pay28 hot wide least tops sumNoise
  rfl

theorem pay10_eq (L M : FVec Ideal S512x256 .f32) : k0_pay10 (F := Ideal) L M = shapeCast S512x256 (hot (sumNoise L M)) shapeCasts_S512x256_S512x256 := by
  unfold k0_pay10 hot wide least tops sumNoise
  rfl

theorem same_apply (x : FVec Ideal S512x256 .f32) : shapeCast S512x256 x shapeCasts_S512x256_S512x256 (ix2 r k) = x (ix2 r k) := by
  pointwise

theorem noise_row (Q : Row) (n c : Row) (L M : FVec Ideal S512x256 .f32) (hL : ∀ k, L (ix2 r k) = Ideal.log (Q k + eps)) (hM : ∀ k, M (ix2 r k) = 0 - Ideal.log (min 1 (max eps (n k)))) :
    (fun k => sumNoise L M (ix2 r k)) = noisy Q n := by
  funext k
  rw [sumNoise_apply, hL, hM, zero_sub, zero_sub]
  rfl

/-- The first point's own draw. -/
theorem drawn_first (x : IVec S1x1x512 32) (n : FVec Ideal S1x512x256 .f32) (a l d : FVec Ideal S1x1 .f32) (X p : Fin 256) (hx : x (ix3 0 0 r) = num X)
    (hp : First (noisy (chainRow (a (ix2 0 0)) (l (ix2 0 0)) (d (ix2 0 0)) X) (fun k => n (ix3 0 r k))) p) :
    k0_pay10 (F := Ideal) (k0_pay4 (F := Ideal) (k0_pay6 (F := Ideal) x) cols a l d) (k0_pay5 (F := Ideal) n) (ix2 r k) = if k = p then 1 else 0 := by
  have h := noise_row r (chainRow (a (ix2 0 0)) (l (ix2 0 0)) (d (ix2 0 0)) X) (fun k => n (ix3 0 r k)) (fun _ => 0) (k0_pay4 (F := Ideal) (k0_pay6 (F := Ideal) x) cols a l d) (k0_pay5 (F := Ideal) n)
    (fun k => by rw [pay4_apply, pay6_apply, hx, chosen_eq]) (fun k => pay5_apply r k n)
  rw [pay10_eq, same_apply]
  exact hot_apply r k _ p (h ▸ hp)

/-- A later tile's draw. -/
theorem drawn_next (x : IVec S1x1x512 32) (n : FVec Ideal S1x512x256 .f32) (a l d : FVec Ideal S1x1 .f32) (X p : Fin 256) (hx : x (ix3 0 0 r) = num X)
    (hp : First (noisy (chainRow (a (ix2 0 0)) (l (ix2 0 0)) (d (ix2 0 0)) X) (fun k => n (ix3 0 r k))) p) :
    k0_pay3 (F := Ideal) (k0_pay28 (F := Ideal) cols (k0_pay26 (F := Ideal) cols a l d x) (k0_pay27 (F := Ideal) n)) (ix2 r k) = if k = p then 1 else 0 := by
  have h := noise_row r (chainRow (a (ix2 0 0)) (l (ix2 0 0)) (d (ix2 0 0)) X) (fun k => n (ix3 0 r k)) (fun _ => 0) (k0_pay26 (F := Ideal) cols a l d x) (k0_pay27 (F := Ideal) n)
    (fun k => by rw [pay26_apply, hx, chosen_eq]) (fun k => pay27_apply r k n)
  unfold k0_pay3
  rw [pay28_eq]
  refine (same_apply r k _).trans ?_
  exact hot_apply r k _ p (h ▸ hp)

end Cert.Tile

end
-- ==== Proof.TileLoss.lean ====
/- A tile's predicted logits and its cross entropy, row by row. -/
module

public import proofs.«01_k».proof.Proof.TileLogits

@[expose] public section

set_option maxRecDepth 16384

noncomputable section

namespace Cert.Tile

open Cert.KernelIdeal Cert.KernelIdeal.Gen Idealize.ShloMosaic Cert.Rows

variable (r : Fin 512) (k : Fin 256)

theorem pay24_apply (z : FVec Ideal S512x256 .f32) (E : FVec Ideal S256x1024 .f32) (T : FVec Ideal S1x1x1024 .f32) (W1 : FVec Ideal S1024x1024 .f32) (b1 : FVec Ideal S1x1024 .f32) (W2 : FVec Ideal S1024x256 .f32) :
    k0_pay24 (F := Ideal) z E T W1 b1 W2 (ix2 r k)
      = ∑ j : Fin 1024, max (∑ i : Fin 1024, (∑ m : Fin 256, z (ix2 r m) * E (ix2 m i) + T (ix3 0 0 i)) * W1 (ix2 i j) + b1 (ix2 0 j)) 0 * W2 (ix2 j k) := by
  pointwise [k0_pay24]

theorem pay25_apply (x : FVec Ideal S512x256 .f32) (b2 : FVec Ideal S1x256 .f32) : k0_pay25 (F := Ideal) x b2 (ix2 r k) = x (ix2 r k) + b2 (ix2 0 k) := by
  pointwise [k0_pay25]

/-- The predicted logits of a row drawn. -/
theorem predicted_row (z : FVec Ideal S512x256 .f32) (E : FVec Ideal S256x1024 .f32) (T : FVec Ideal S1x1x1024 .f32) (W1 : FVec Ideal S1024x1024 .f32) (b1 : FVec Ideal S1x1024 .f32) (W2 : FVec Ideal S1024x256 .f32)
    (b2 : FVec Ideal S1x256 .f32) (p : Fin 256) (hz : ∀ m, z (ix2 r m) = if m = p then 1 else 0) :
    k0_pay25 (F := Ideal) (k0_pay24 (F := Ideal) z E T W1 b1 W2) b2 (ix2 r k)
      = net (fun i => E (ix2 p i)) (fun i => T (ix3 0 0 i)) (fun i j => W1 (ix2 i j)) (fun j => b1 (ix2 0 j)) (fun j c => W2 (ix2 j c)) (fun c => b2 (ix2 0 c)) k := by
  rw [pay25_apply, pay24_apply]
  simp only [hz, pick_sum p (fun m => E (ix2 m _))]
  rfl

theorem pay29_apply (P : FVec Ideal S512x256 .f32) : k0_pay29 (F := Ideal) P (ix2 r 0) = top (fun k => P (ix2 r k)) := by
  have h : k0_pay29 (F := Ideal) P = shapeCast S512x1 (tops P) shapeCasts_S512_S512x1 := by
    unfold k0_pay29 tops
    rfl
  rw [h, ← tops_apply]
  generalize tops P = t
  pointwise

theorem pay30_apply (P : FVec Ideal S512x256 .f32) : k0_pay30 (F := Ideal) P (ix2 r k) = Ideal.exp (P (ix2 r k) - top (fun k => P (ix2 r k))) := by
  rw [← pay29_apply]
  unfold k0_pay30
  generalize k0_pay29 (F := Ideal) P = t
  pointwise

theorem pay31_apply (P : FVec Ideal S512x256 .f32) : k0_pay31 (F := Ideal) P (ix2 r 0) = mass (fun k => P (ix2 r k)) := by
  have h : k0_pay31 (F := Ideal) P (ix2 r 0) = ∑ k, k0_pay30 (F := Ideal) P (ix2 r k) := by
    unfold k0_pay31
    generalize k0_pay30 (F := Ideal) P = t
    pointwise
  rw [h]
  exact Finset.sum_congr rfl fun k _ => pay30_apply r k P

theorem pay32_apply (m : IVec S512x256 1) (P : FVec Ideal S512x256 .f32) :
    k0_pay32 (F := Ideal) m P = 0 - ∑ r : Fin 512, ∑ k : Fin 256, Scalar.select (m (ix2 r k)) (P (ix2 r k) - (top (fun k => P (ix2 r k)) + Ideal.log (mass (fun k => P (ix2 r k))))) 0 := by
  simp only [← pay29_apply, ← pay31_apply]
  unfold k0_pay32
  generalize k0_pay29 (F := Ideal) P = t
  generalize k0_pay31 (F := Ideal) P = u
  pointwise

theorem pay18_apply (x : IVec S1x1x512 32) : k0_pay18 (k0_pay6 (F := Ideal) x) cols (ix2 r k) = IntOp.cmpi .eq (num k) (x (ix3 0 0 r)) := by
  have h := pay6_apply r x
  generalize k0_pay6 (F := Ideal) x = w at h ⊢
  rw [← h]
  pointwise [k0_pay18, k0_pay17]

/-- A tile's cross entropy added to the sum so far. -/
theorem tile_ce (x : IVec S1x1x512 32) (P : FVec Ideal S512x256 .f32) (q : EReal) (X : Fin 512 → Fin 256) (D : Fin 512 → Row) (hx : ∀ r, x (ix3 0 0 r) = num (X r))
    (hP : ∀ r k, P (ix2 r k) = D r k) (hD : ∀ r k, IsReal (D r k)) :
    k0_pay1 (F := Ideal) (k0_pay32 (F := Ideal) (k0_pay18 (k0_pay6 (F := Ideal) x) cols) P) q = q + (0 - ∑ r, lsm (D r) (X r)) * Ideal.ofBits .f32 0x39000000#32 := by
  have h : k0_pay32 (F := Ideal) (k0_pay18 (k0_pay6 (F := Ideal) x) cols) P = 0 - ∑ r, lsm (D r) (X r) := by
    rw [pay32_apply]
    refine congrArg (fun z => (0 : EReal) - z) (Finset.sum_congr rfl fun r _ => ?_)
    simp only [pay18_apply, hx, select_eq, hP]
    refine (only_sum (X r) _).trans ?_
    obtain ⟨w, h1, h2⟩ := lsm_real (D r) (hD r) (X r)
    rw [h1]
    exact h2
  rw [h]
  rfl

end Cert.Tile

end
-- ==== Proof.RefEntry.lean ====
/- The reference's cross entropy from its log-softmax, read at an index. -/
module

public import proofs.«01_k».proof.Proof.RefRows

@[expose] public section

set_option maxRecDepth 16384
noncomputable section

namespace Cert.RefRows

open Cert.ReferenceIdeal Cert.ReferenceIdeal.Gen Idealize.ShloMosaic Cert.RefStages Cert.Rows Cert.RefPick

variable (b : Fin 4) (l : Fin 2048) (c : Fin 256)

/-- Every token as a column, a negative one counted from the end. -/
def wordAt (x : IVec S4x2048 32) : IVec S4x2048x1 32 :=
  select (cmpi .slt (broadcastInDim S4x2048x1 ![0, 1] bcast_S4x2048_S4x2048x1_0_1 x) (broadcastInDim S4x2048x1 ![] bcast_S_S4x2048x1 (constantI S_ 32 0#32)))
    (addi (broadcastInDim S4x2048x1 ![0, 1] bcast_S4x2048_S4x2048x1_0_1 x) (broadcastInDim S4x2048x1 ![] bcast_S_S4x2048x1 (constantI S_ 32 256#32)))
    (broadcastInDim S4x2048x1 ![0, 1] bcast_S4x2048_S4x2048x1_0_1 x)

/-- Whether every column is one. -/
def isColumn (w : IVec S4x2048x1x1 32) : IVec S4x2048x1x1 1 :=
  andi (cmpi .sge w (broadcastInDim S4x2048x1x1 ![] bcast_S_S4x2048x1x1 (constantI S_ 32 0#32)))
    (cmpi .sle w (broadcastInDim S4x2048x1x1 ![0, 1, 2, 3] bcast_S1x1x1x1_S4x2048x1x1_0_1_2_3 (broadcastInDim S1x1x1x1 ![3] bcast_S1_S1x1x1x1_3 (constantI S1 32 255#32))))

/-- The same, without the last axis. -/
def allColumn (w : IVec S4x2048x1x1 1) : IVec S4x2048x1 1 :=
  Host.reduce IntOp.andi w (constantI S_ 1 1#1) reducesTo_S4x2048x1x1_S4x2048x1_d3 h_S_

theorem wordAt_apply (x : IVec S4x2048 32) (k : Fin 256) (hx : x (ix2 b l) = num k) : wordAt x (ix3 b l 0) = num k := by
  pointwise [wordAt]
  rw [hx]
  clear hx
  revert k; decide

theorem cast_apply (w : IVec S4x2048x1 32) : shapeCast S4x2048x1x1 w shapeCasts_S4x2048x1_S4x2048x1x1 (ix4 b l 0 0) = w (ix3 b l 0) := by
  pointwise

theorem isColumn_apply (w : IVec S4x2048x1x1 32) (k : Fin 256) (hw : w (ix4 b l 0 0) = num k) : isColumn w (ix4 b l 0 0) = 1#1 := by
  pointwise [isColumn]
  rw [hw]
  clear hw
  revert k; decide

theorem allColumn_apply (w : IVec S4x2048x1x1 1) (hw : w (ix4 b l 0 0) = 1#1) : allColumn w (ix3 b l 0) = 1#1 := by
  unfold allColumn
  rw [Host.reduce_eq_fold, Shape.ReducesTo.fold_fiber_r4_a3]
  have h : (constantI S_ 1 1#1) (Shape.Idx.first h_S_) = 1#1 := rfl
  have e : (Finset.univ : Finset (Fin 1)) = {0} := rfl
  rw [h, e, Finset.fold_singleton]
  show IntOp.andi (w (ix4 b l 0 0)) 1#1 = 1#1
  rw [hw]
  rfl

theorem tokenEntry_apply (x : IVec S4x2048 32) (y : FVec Ideal S4x2048x256 .f32) (k : Fin 256) (hx : x (ix2 b l) = num k) :
    tokenEntry (F := Ideal) x y (ix3 b l 0) = y (ix3 b l k) := by
  have h : tokenEntry (F := Ideal) x y = select (allColumn (isColumn (shapeCast S4x2048x1x1 (wordAt x) shapeCasts_S4x2048x1_S4x2048x1x1)))
      (Host.gather gather_S4x2048x256_S4x2048x1x1_S4x2048x1_n_2_01_01_2_3_111 y (shapeCast S4x2048x1x1 (wordAt x) shapeCasts_S4x2048x1_S4x2048x1x1))
      (broadcastInDim S4x2048x1 ![] bcast_S_S4x2048x1 (constant S_ .f32 0x7FC00000#32)) := rfl
  rw [h]
  have hw := (cast_apply b l (wordAt x)).trans (wordAt_apply b l x k hx)
  generalize shapeCast S4x2048x1x1 (wordAt x) shapeCasts_S4x2048x1_S4x2048x1x1 = w at hw ⊢
  have ha := allColumn_apply b l _ (isColumn_apply b l w k hw)
  generalize allColumn (isColumn w) = a at ha ⊢
  show Scalar.select (a (ix3 b l 0)) (Host.gather gather_S4x2048x256_S4x2048x1x1_S4x2048x1_n_2_01_01_2_3_111 y w (ix3 b l 0)) _ = _
  rw [ha, RefGather.entry, hw]
  refine congrArg (fun z => y (ix3 b l z)) ?_
  clear hx hw
  revert k; decide

/-- The sum of a column. -/
def total (x : FVec Ideal S4x2048x1 .f32) : FVec Ideal S_ .f32 := Host.reduceAdd x (constant S_ .f32 0x00000000#32) reducesTo_S4x2048x1_S_d0_1_2 h_S_

theorem total_apply (x : FVec Ideal S4x2048x1 .f32) : total x ix0 = ∑ b, ∑ l, x (ix3 b l 0) := by
  pointwise [total]
  simp

theorem negMean_apply (x : FVec Ideal S4x2048x1 .f32) : negMean (F := Ideal) x ix0 = -Ideal.div (∑ b, ∑ l, x (ix3 b l 0)) (Ideal.ofBits .f32 0x46000000#32) := by
  rw [← total_apply]
  rfl

end Cert.RefRows

end
-- ==== Proof.RefLayers.lean ====
/- The reference's layers read at an index. -/
module

public import proofs.«01_k».proof.Proof.RefValue
public import proofs.«01_k».proof.Proof.RefGather
public import proofs.«01_k».proof.Proof.RefPick

@[expose] public section

set_option maxRecDepth 16384
noncomputable section

namespace Cert.RefRows

open Cert.ReferenceIdeal Cert.ReferenceIdeal.Gen Idealize.ShloMosaic Cert.RefStages Cert.Rows Cert.RefPick

variable (b : Fin 4) (l : Fin 2048) (c : Fin 256)

theorem hidden_apply (e : FVec Ideal S4x2048x1024 .f32) (s : FVec Ideal S4x1024 .f32) (W1 : FVec Ideal S1024x1024 .f32) (j : Fin 1024) :
    hidden (F := Ideal) e s W1 (ix3 b l j) = ∑ i, (e (ix3 b l i) + s (ix2 b i)) * W1 (ix2 i j) := by
  pointwise [RefStages.hidden]

theorem biasAll_apply (b1 : FVec Ideal S1024 .f32) (j : Fin 1024) : biasAll (F := Ideal) b1 (ix3 b l j) = b1 (ix1 j) := by
  pointwise [biasAll]

theorem outLayer_apply (h a : FVec Ideal S4x2048x1024 .f32) (W2 : FVec Ideal S1024x256 .f32) (b2 : FVec Ideal S256 .f32) :
    outLayer (F := Ideal) h a W2 b2 (ix3 b l c) = ∑ j, max (h (ix3 b l j) + a (ix3 b l j)) 0 * W2 (ix2 j c) + b2 (ix1 c) := by
  pointwise [outLayer]

end Cert.RefRows

end
-- ==== Proof.RefResult.lean ====
/- The reference's cross entropy on its arguments' entries. -/
module

public import proofs.«01_k».proof.Proof.RefEntry
public import proofs.«01_k».proof.Proof.RefLayers

@[expose] public section

set_option maxRecDepth 16384
noncomputable section

namespace Cert.RefRows

open Cert.ReferenceIdeal Cert.ReferenceIdeal.Gen Idealize.ShloMosaic Cert.RefStages Cert.RefValue Cert.Rows Cert.RefPick

variable (x : IVec S4x2048 32) (t : IVec S4 32) (n : FVec Ideal S4x2048x256 .f32) (q : FVec Ideal S100x256x256 .f32) (E : FVec Ideal S256x1024 .f32) (T : FVec Ideal S101x1024 .f32)
  (W1 : FVec Ideal S1024x1024 .f32) (b1 : FVec Ideal S1024 .f32) (W2 : FVec Ideal S1024x256 .f32) (b2 : FVec Ideal S256 .f32)
  (s : Fin 4 → Fin 100) (X Y : Fin 4 → Fin 2048 → Fin 256)

/-- The model's logits after a drawn token and a step. -/
def logits (y : Fin 256) (s : Fin 100) : Row :=
  net (fun i => E (ix2 y i)) (fun i => T (ix2 s.succ i)) (fun i j => W1 (ix2 i j)) (fun j => b1 (ix1 j)) (fun j c => W2 (ix2 j c)) (fun c => b2 (ix1 c))

theorem drawn_apply (ht : ∀ b, t (ix1 b) = stepNum (s b)) (hx : ∀ b l, x (ix2 b l) = num (X b l))
    (hY : ∀ b l, First (noisy (fun k => q (ix3 (s b) (X b l) k)) (fun k => n (ix3 b l k))) (Y b l)) (b : Fin 4) (l : Fin 2048) :
    drawn (F := Ideal) x t n q (ix2 b l) = num (Y b l) := by
  unfold drawn
  refine picked_apply b l _ (Y b l) ?_
  have h : (fun k => mixed (F := Ideal) (pairRows (F := Ideal) q t x) n (ix3 b l k)) = noisy (fun k => q (ix3 (s b) (X b l) k)) (fun k => n (ix3 b l k)) := by
    funext k
    rw [mixed_apply]
    refine congrArg (fun z => noisy z (fun k => n (ix3 b l k)) k) ?_
    funext k
    exact pairRows_apply b l k q t x (s b) (ht b) (X b l) (hx b l)
  rw [h]
  exact hY b l

theorem guess_apply (y : IVec S4x2048 32) (ht : ∀ b, t (ix1 b) = stepNum (s b)) (hy : ∀ b l, y (ix2 b l) = num (Y b l)) (b : Fin 4) (l : Fin 2048) (c : Fin 256) :
    guess (F := Ideal) y t E T W1 b1 W2 b2 (ix3 b l c) = logits E T W1 b1 W2 b2 (Y b l) (s b) c := by
  unfold guess
  rw [outLayer_apply]
  refine congrArg (· + b2 (ix1 c)) (Finset.sum_congr rfl fun j _ => ?_)
  rw [hidden_apply, biasAll_apply]
  refine congrArg (fun z => max (z + b1 (ix1 j)) 0 * W2 (ix2 j c)) (Finset.sum_congr rfl fun i _ => ?_)
  rw [wordRows_apply b l E y (Y b l) (hy b l), stepRows_apply b T t (s b) (ht b)]

theorem ce_apply (ht : ∀ b, t (ix1 b) = stepNum (s b)) (hx : ∀ b l, x (ix2 b l) = num (X b l))
    (hY : ∀ b l, First (noisy (fun k => q (ix3 (s b) (X b l) k)) (fun k => n (ix3 b l k))) (Y b l)) :
    negMean (F := Ideal) (tokenEntry (F := Ideal) x (lsmAll (F := Ideal) (guess (F := Ideal) (drawn (F := Ideal) x t n q) t E T W1 b1 W2 b2))) ix0
      = -Ideal.div (∑ b, ∑ l, lsm (logits E T W1 b1 W2 b2 (Y b l) (s b)) (X b l)) (Ideal.ofBits .f32 0x46000000#32) := by
  have key : ∀ b l, tokenEntry (F := Ideal) x (lsmAll (F := Ideal) (guess (F := Ideal) (drawn (F := Ideal) x t n q) t E T W1 b1 W2 b2)) (ix3 b l 0)
      = lsm (logits E T W1 b1 W2 b2 (Y b l) (s b)) (X b l) := fun b l => by
    have hd := drawn_apply x t n q s X Y ht hx hY
    generalize drawn (F := Ideal) x t n q = y at hd ⊢
    have hg := guess_apply t E T W1 b1 W2 b2 s Y y ht hd b l
    generalize guess (F := Ideal) y t E T W1 b1 W2 b2 = g at hg ⊢
    rw [tokenEntry_apply b l x _ (X b l) (hx b l), lsmAll_apply, funext hg]
  rw [negMean_apply]
  simp only [key]

end Cert.RefRows

end
-- ==== Proof.KernelSums.lean ====
/- The kernel's cross entropy, tile by tile: after each grid point the scratch holds the next tile's drawn tokens as one-hot
   rows, and the output's cell the sum of the tiles' cross entropies so far. -/
module

public import proofs.«01_k».proof.Proof.KernelPoints
public import proofs.«01_k».proof.Proof.KernelEntries
public import proofs.«01_k».proof.Proof.TileCells
public import proofs.«01_k».proof.Proof.TileRows
public import proofs.«01_k».proof.Proof.TileLoss
public import proofs.«01_k».proof.Proof.RefResult

@[expose] public section

set_option maxRecDepth 16384

noncomputable section

namespace Cert.KernelSums

open Cert.KernelIdeal Cert.KernelIdeal.Gen Cert.KernelIdealTables Cert.KernelEntries Cert.KernelPoints Cert.Rows Idealize.ShloMosaic Idealize.ShloMosaic.TcCoe Idealize.SL.Sem

variable (m : (ℓ : Loc nD τ sig) → Buf (Elt Ideal) ℓ) (hO : Ok m) (c : Dev nD)

/-! ## The launch's arguments -/

abbrev argX : IVec S4x2048 32 := m ((c : Thread nD τ).loc main_arg0)
abbrev argN : FVec Ideal S4x2048x256 .f32 := m ((c : Thread nD τ).loc main_arg2)
abbrev argQ : FVec Ideal S100x256x256 .f32 := m ((c : Thread nD τ).loc main_arg4)
abbrev argE : FVec Ideal S256x1024 .f32 := m ((c : Thread nD τ).loc main_arg5)
abbrev argT : FVec Ideal S101x1024 .f32 := m ((c : Thread nD τ).loc main_arg6)
abbrev argW1 : FVec Ideal S1024x1024 .f32 := m ((c : Thread nD τ).loc main_arg7)
abbrev argb1 : FVec Ideal S1024 .f32 := m ((c : Thread nD τ).loc main_arg8)
abbrev argW2 : FVec Ideal S1024x256 .f32 := m ((c : Thread nD τ).loc main_arg9)
abbrev argb2 : FVec Ideal S256 .f32 := m ((c : Thread nD τ).loc main_arg10)

variable (s : Fin 4 → Fin 100) (X Y : Fin 4 → Fin 2048 → Fin 256)

/-- The logits at a position: the model's, after its drawn token and its batch entry's step. -/
def row (b : Fin 4) (l : Fin 2048) : Row :=
  RefRows.logits (argE m c) (argT m c) (argW1 m c) (argb1 m c) (argW2 m c) (argb2 m c) (Y b l) (s b)

/-- What the launch's arguments hold: steps `s`, tokens `X`, the tokens drawn of the noise `Y`, real logits. -/
structure Reads : Prop where
  steps : ∀ b, word (tbl m) b = BitVec.ofNat 32 ((s b).val + 1)
  token : ∀ b l, argX m c (ix2 b l) = Tile.num (X b l)
  draw : ∀ b l, First (noisy (Tile.chainRow (argQ m c (ix3 (s b) 0 0)) (argQ m c (ix3 (s b) 0 255)) (argQ m c (ix3 (s b) 255 255)) (X b l)) (fun k => argN m c (ix3 b l k))) (Y b l)
  real : ∀ b l k, IsReal (row m c s Y b l k)

variable {m} {c} {s} {X} {Y} (R : Reads m c s X Y) (t : Fin (cfgM m hO).N)

include R

/-- The next tile's rows, drawn. -/
theorem nextRows_apply (r : Fin 512) (k : Fin 256) :
    nextRows m hO c t (ix2 r k) = if k = Y (tb (KernelEntries.after (tile t))) (tl (KernelEntries.after (tile t)) r) then 1 else 0 := by
  unfold nextRows KernelIdealPoint.drawNext
  refine Tile.drawn_next r k _ _ _ _ _ (X (tb (KernelEntries.after (tile t))) (tl (KernelEntries.after (tile t)) r)) _ ((tokensNext m hO c t r).trans (R.token _ _)) ?_
  rw [(TileCells.kept _).trans (top m hO c t s R.steps 0), (TileCells.absorbed _).trans (top m hO c t s R.steps 255), (TileCells.last _).trans (bottom m hO c t s R.steps 255),
    show (fun k => iblk m hO c 3 t (ix3 0 r k)) = _ from funext fun k => noiseNext m hO c t r k]
  exact R.draw _ _

/-- The first tile's rows, drawn at the first point. -/
theorem firstRows_apply (ht : tile t = 0) (r : Fin 512) (k : Fin 256) :
    firstRows m hO c t (ix2 r k) = if k = Y (tb 0) (tl 0 r) then 1 else 0 := by
  have hb : tb (KernelEntries.after (tile t)) = tb 0 := by rw [ht]; rfl
  unfold firstRows KernelIdealPoint.drawFirst
  refine Tile.drawn_first r k _ _ _ _ _ (X (tb 0) (tl 0 r)) _ ((tokens m hO c t r).trans (by rw [ht]; exact R.token _ _)) ?_
  rw [(TileCells.kept _).trans (top m hO c t s R.steps 0), (TileCells.absorbed _).trans (top m hO c t s R.steps 255), (TileCells.last _).trans (bottom m hO c t s R.steps 255),
    show (fun k => iblk m hO c 1 t (ix3 0 r k)) = _ from funext fun k => noise0 m hO c t r k, hb]
  exact R.draw _ _

/-- The logits of the tile at hand. -/
theorem predictedAt_apply (z : FVec Ideal S512x256 .f32) (hz : ∀ r k, z (ix2 r k) = if k = Y (tb (tile t)) (tl (tile t) r) then 1 else 0) (r : Fin 512) (k : Fin 256) :
    predictedAt m hO c t z (ix2 r k) = row m c s Y (tb (tile t)) (tl (tile t) r) k := by
  unfold predictedAt KernelIdealPoint.predicted
  refine (Tile.predicted_row r k z _ _ _ _ _ _ _ (hz r)).trans ?_
  unfold row RefRows.logits
  rw [show (fun i => iblk m hO c 10 t (ix2 (Y (tb (tile t)) (tl (tile t) r)) i)) = _ from funext fun i => embedding m hO c t _ i,
    show (fun i => iblk m hO c 11 t (ix3 0 0 i)) = _ from funext fun i => stepRow m hO c t s R.steps i,
    show (fun i j => iblk m hO c 12 t (ix2 i j)) = _ from funext fun i => funext fun j => weight1 m hO c t i j,
    show (fun j => iblk m hO c 13 t (ix2 0 j)) = _ from funext fun j => bias1 m hO c t j,
    show (fun i j => iblk m hO c 14 t (ix2 i j)) = _ from funext fun i => funext fun j => weight2 m hO c t i j,
    show (fun j => iblk m hO c 15 t (ix2 0 j)) = _ from funext fun j => bias2 m hO c t j]

omit R

/-- A tile's cross entropy, scaled. -/
def term (m : (ℓ : Loc nD τ sig) → Buf (Elt Ideal) ℓ) (c : Dev nD) (s : Fin 4 → Fin 100) (X Y : Fin 4 → Fin 2048 → Fin 256) (k : Fin 16) : EReal :=
  (0 - ∑ r : Fin 512, lsm (row m c s Y (tb k) (tl k r)) (X (tb k) (tl k r))) * Ideal.ofBits .f32 0x39000000#32

/-- The tiles' cross entropies, summed in order from zero. -/
def acc (m : (ℓ : Loc nD τ sig) → Buf (Elt Ideal) ℓ) (c : Dev nD) (s : Fin 4 → Fin 100) (X Y : Fin 4 → Fin 2048 → Fin 256) : (n : ℕ) → n < 16 → EReal
  | 0, h => 0 + term m c s X Y ⟨0, h⟩
  | n + 1, h => acc m c s X Y n (Nat.lt_of_succ_lt h) + term m c s X Y ⟨n + 1, h⟩

include R

theorem addCe_eq (z : FVec Ideal S512x256 .f32) (hz : ∀ r k, z (ix2 r k) = if k = Y (tb (tile t)) (tl (tile t) r) then 1 else 0) (q : EReal) :
    KernelIdealPoint.addCe (F := Ideal) (iblk m hO c 0 t) (predictedAt m hO c t z) q = q + term m c s X Y (tile t) := by
  unfold KernelIdealPoint.addCe term
  exact Tile.tile_ce _ _ q (fun r => X (tb (tile t)) (tl (tile t) r)) (fun r => row m c s Y (tb (tile t)) (tl (tile t) r))
    (fun r => (tokens m hO c t r).trans (R.token _ _)) (fun r k => predictedAt_apply hO R t z hz r k) (fun r k => R.real _ _ k)

theorem outs (n : ℕ) (hn : n < (cfgM m hO).N) :
    (outsAt0 m hO c n hn).1 = (fun _ => acc m c s X Y n hn)
      ∧ ∀ r k, (outsAt0 m hO c n hn).2.2 (ix2 r k) = if k = Y (tb (KernelEntries.after ⟨n, hn⟩)) (tl (KernelEntries.after ⟨n, hn⟩) r) then 1 else 0 := by
  induction n with
  | zero =>
    have h0 : (⟨0, hn⟩ : Fin (cfgM m hO).N).val % 16 = 0 := rfl
    refine ⟨(ce_first m hO c ⟨0, hn⟩ h0).trans (funext fun _ => ?_), fun r k => (congrFun (rows_first m hO c ⟨0, hn⟩ h0) _).trans (nextRows_apply hO R ⟨0, hn⟩ r k)⟩
    refine (addCe_eq hO R ⟨0, hn⟩ _ (fun r k => firstRows_apply hO R ⟨0, hn⟩ rfl r k) _).trans ?_
    exact congrArg (· + term m c s X Y ⟨0, hn⟩) (Ideal.ofBits_zero .f32)
  | succ n ih =>
    have hn' : n + 1 < 16 := hn
    have h0 : ¬(⟨n + 1, hn⟩ : Fin (cfgM m hO).N).val % 16 = 0 := by show ¬(n + 1) % 16 = 0; omega
    obtain ⟨i1, i2⟩ := ih (Nat.lt_of_succ_lt hn)
    have ha : KernelEntries.after ⟨n, Nat.lt_of_succ_lt hn⟩ = ⟨n + 1, hn⟩ := Fin.ext (by show min (n + 1) 15 = n + 1; omega)
    rw [ha] at i2
    refine ⟨(ce_later m hO c ⟨n + 1, hn⟩ h0 (outsAt0 m hO c n (Nat.lt_of_succ_lt hn)) rfl).trans (funext fun _ => ?_), fun r k => (congrFun (rows_later m hO c ⟨n + 1, hn⟩ h0) _).trans (nextRows_apply hO R ⟨n + 1, hn⟩ r k)⟩
    refine (addCe_eq hO R ⟨n + 1, hn⟩ _ i2 _).trans ?_
    rw [i1]
    rfl

end Cert.KernelSums

end
-- ==== Proof.SumOrder.lean ====
/- The kernel's sum of scaled tile sums, in order, is the negated mean the reference takes, when every term is a real
   number. -/
module

public import proofs.«01_k».proof.Proof.Rows
public import proofs.«01_k».proof.Proof.KernelSums

@[expose] public section

set_option maxRecDepth 16384

noncomputable section

namespace Cert.SumOrder

open Cert.KernelIdeal Cert.KernelIdeal.Gen Cert.KernelEntries Cert.KernelSums Cert.Rows Idealize.ShloMosaic

theorem scale : Ideal.ofBits .f32 0x39000000#32 = (((1 / 8192 : ℝ)) : EReal) := by
  simp [Ideal.ofBits, Ideal.ieee]
  rw [← EReal.coe_mul]
  norm_num

theorem count : Ideal.ofBits .f32 0x46000000#32 = ((8192 : ℝ) : EReal) := by
  simp [Ideal.ofBits, Ideal.ieee]
  rw [← EReal.coe_mul]
  norm_num

/-- A tile's sum of real terms, scaled. -/
def part (g : Fin 4 → Fin 2048 → ℝ) (k : Fin 16) : ℝ := (0 - ∑ r : Fin 512, g (tb k) (tl k r)) * (1 / 8192)

/-- The tiles' sums, in order. -/
def sums (g : Fin 4 → Fin 2048 → ℝ) : (n : ℕ) → n < 16 → ℝ
  | 0, h => 0 + part g ⟨0, h⟩
  | n + 1, h => sums g n (Nat.lt_of_succ_lt h) + part g ⟨n + 1, h⟩

theorem sums_last (g : Fin 4 → Fin 2048 → ℝ) : sums g 15 (by omega) = -(∑ b, ∑ l, g b l) / 8192 := by
  have h : ∀ b : Fin 4, ∑ l, g b l = ∑ r : Fin 512, g b (⟨512 * 0 + r.val, by omega⟩) + ∑ r : Fin 512, g b (⟨512 * 1 + r.val, by omega⟩)
      + ∑ r : Fin 512, g b (⟨512 * 2 + r.val, by omega⟩) + ∑ r : Fin 512, g b (⟨512 * 3 + r.val, by omega⟩) := fun b => by
    rw [sum_tiles, Fin.sum_univ_four]; rfl
  have e : sums g 15 (by omega) = 0 + part g 0 + part g 1 + part g 2 + part g 3 + part g 4 + part g 5 + part g 6 + part g 7
      + part g 8 + part g 9 + part g 10 + part g 11 + part g 12 + part g 13 + part g 14 + part g 15 := rfl
  have p : ∀ (b j : Fin 4) (k : Fin 16), k.val = 4 * b.val + j.val → part g k = (0 - ∑ r : Fin 512, g b ⟨512 * j.val + r.val, by omega⟩) * (1 / 8192) := fun b j k hk => by
    have h1 : tb k = b := Fin.ext (by show k.val / 4 = b.val; omega)
    have h2 : ∀ r, tl k r = ⟨512 * j.val + r.val, by omega⟩ := fun r => Fin.ext (by show 512 * (k.val % 4) + r.val = _; show _ = 512 * j.val + r.val; omega)
    unfold part
    simp only [h1, h2]
  rw [Fin.sum_univ_four, h 0, h 1, h 2, h 3]
  rw [e, p 0 0 0 rfl, p 0 1 1 rfl, p 0 2 2 rfl, p 0 3 3 rfl, p 1 0 4 rfl, p 1 1 5 rfl, p 1 2 6 rfl, p 1 3 7 rfl,
    p 2 0 8 rfl, p 2 1 9 rfl, p 2 2 10 rfl, p 2 3 11 rfl, p 3 0 12 rfl, p 3 1 13 rfl, p 3 2 14 rfl, p 3 3 15 rfl]
  simp only [show (0 : Fin 4).val = 0 from rfl, show (1 : Fin 4).val = 1 from rfl, show (2 : Fin 4).val = 2 from rfl, show (3 : Fin 4).val = 3 from rfl]
  ring

variable (m : (ℓ : Loc nD τ sig) → Buf (Elt Ideal) ℓ) (c : Dev nD) (s : Fin 4 → Fin 100) (X Y : Fin 4 → Fin 2048 → Fin 256)
variable (g : Fin 4 → Fin 2048 → ℝ) (hg : ∀ b l, lsm (row m c s Y b l) (X b l) = (g b l : EReal))

include hg

theorem term_eq (k : Fin 16) : term m c s X Y k = ((part g k : ℝ) : EReal) := by
  unfold term part
  rw [scale]
  simp only [hg]
  rw [← coe_sum, ← EReal.coe_zero, ← EReal.coe_sub, ← EReal.coe_mul]

theorem acc_eq (n : ℕ) (h : n < 16) : acc m c s X Y n h = ((sums g n h : ℝ) : EReal) := by
  induction n with
  | zero => rw [acc, sums, term_eq m c s X Y g hg, EReal.coe_add, EReal.coe_zero]
  | succ n ih => rw [acc, sums, term_eq m c s X Y g hg, ih, EReal.coe_add]

theorem acc_last : acc m c s X Y 15 (by omega) = -Ideal.div (∑ b, ∑ l, lsm (row m c s Y b l) (X b l)) (Ideal.ofBits .f32 0x46000000#32) := by
  rw [acc_eq m c s X Y g hg, sums_last, count]
  simp only [hg]
  simp only [← coe_sum]
  rw [Ideal.div_coe (by norm_num)]
  rw [← EReal.coe_mul, ← EReal.coe_neg]
  congr 1
  ring

end Cert.SumOrder

end
-- ==== Proof.Algebraic.lean ====
/- The value claim: under the precondition the kernel's cross entropy, on the extended reals, is the reference's. -/
module

public import proofs.«01_k».proof.Proof.ChainFacts
public import proofs.«01_k».proof.Proof.KernelRun
public import proofs.«01_k».proof.Proof.SumOrder
public import proofs.«01_k».proof.Proof.RefValue
public import proofs.«01_k».proof.Proof.RefResult

@[expose] public section

set_option maxRecDepth 16384

noncomputable section

namespace Cert.Algebraic

open Idealize.ShloMosaic Idealize.ShloMosaic.TcCoe Idealize.SL.Sem Cert.Rows Cert.KernelSums Cert.KernelIdeal

variable (m : (ℓ : Loc nD τ sig) → Buf (Elt Ideal) ℓ)

/-- A step number in range, as one. -/
theorem step_of (w : BitVec 32) (h : StepRange.IsStep w) : ∃ s : Fin 100, w = BitVec.ofNat 32 (s.val + 1) := by
  obtain ⟨h1, h2⟩ := h
  refine ⟨⟨w.toNat - 1, by omega⟩, ?_⟩
  show w = BitVec.ofNat 32 (w.toNat - 1 + 1)
  rw [Nat.sub_add_cancel h1]
  simp

/-- The step numbers of a device. -/
abbrev argS (c : Dev nD) : IVec S4 32 := m ((c : Thread nD τ).loc main_arg1)

/-- The precondition, read. -/
theorem reads (h : Pre_KernelIdeal_absorbing_chain m) (c : Dev nD) : ∃ s X Y, Reads m c s X Y ∧ (∀ b, argS m c (ix1 b) = RefRows.stepNum (s b))
    ∧ ∀ b l, First (noisy (fun k => argQ m c (ix3 (s b) (X b l) k)) (fun k => argN m c (ix3 b l k))) (Y b l) := by
  obtain rfl : c = 0 := Subsingleton.elim _ _
  have hs : ∀ b, ∃ s : Fin 100, argS m 0 (ix1 b) = BitVec.ofNat 32 (s.val + 1) := fun b =>
    step_of _ (StepRange.isStep_of_bit _ (congrFun (h 0).1 (ix1 b)))
  choose s hs using hs
  choose X hX using Chain.token _ _ _ _ _ _ _ _ _ _ _ (h 0).2.1
  have hY : ∀ b l, ∃ y, First (noisy (fun k => argQ m 0 (ix3 (s b) (X b l) k)) (fun k => argN m 0 (ix3 b l k))) y := fun b l => First.exists _
  choose Y hY using hY
  refine ⟨s, X, Y, ⟨fun b => ?_, hX, fun b l => ?_, fun b l k => ?_⟩, hs, hY⟩
  · rw [KernelIdealTables.word_tbl]
    exact hs b
  · have e : (fun k => argQ m 0 (ix3 (s b) (X b l) k)) = Tile.chainRow (argQ m 0 (ix3 (s b) 0 0)) (argQ m 0 (ix3 (s b) 0 255)) (argQ m 0 (ix3 (s b) 255 255)) (X b l) :=
      funext fun k => Chain.chain _ _ _ _ _ _ _ _ _ _ _ (h 0).2.2.1 (s b) (X b l) k
    rw [← e]
    exact hY b l
  · exact net_real (fun i => Chain.realE _ _ _ _ _ _ _ _ _ _ _ (h 0).2.2.2.1 _ i) (fun i => Chain.realT _ _ _ _ _ _ _ _ _ _ _ (h 0).2.2.2.2.1 _ i)
      (fun i j => Chain.realW1 _ _ _ _ _ _ _ _ _ _ _ (h 0).2.2.2.2.2.1 i j) (fun j => Chain.realb1 _ _ _ _ _ _ _ _ _ _ _ (h 0).2.2.2.2.2.2.1 j)
      (fun j c => Chain.realW2 _ _ _ _ _ _ _ _ _ _ _ (h 0).2.2.2.2.2.2.2.1 j c) (fun c => Chain.realb2 _ _ _ _ _ _ _ _ _ _ _ (h 0).2.2.2.2.2.2.2.2 c) k

/-- The reference's cross entropy of the launch's arguments. -/
def ce (c : Dev nD) : FVec Ideal ReferenceIdeal.S_ .f32 :=
  RefStages.negMean (F := Ideal) (RefStages.tokenEntry (F := Ideal) (argX m c) (RefStages.lsmAll (F := Ideal) (RefValue.guess (F := Ideal)
    (RefValue.drawn (F := Ideal) (argX m c) (argS m c) (argN m c) (argQ m c)) (argS m c) (argE m c) (argT m c) (argW1 m c) (argb1 m c) (argW2 m c) (argb2 m c))))

theorem scalar_apply (x : Vec Ideal S1x1 .f32) : shapeCast S_ x Gen.shapeCasts_S1x1_S_ Idealize.ShloMosaic.ix0 = x (ix2 0 0) := by
  pointwise

theorem value (h : Pre_KernelIdeal_absorbing_chain m) (hO : Gen.Ok m) (c : Dev nD) :
    shapeCast S_ (KernelRun.result m hO c) Gen.shapeCasts_S1x1_S_ = ce m c := by
  obtain ⟨s, X, Y, R, hs, hY⟩ := reads m h c
  have hg : ∀ b l, ∃ g : ℝ, lsm (row m c s Y b l) (X b l) = (g : EReal) := fun b l => by
    obtain ⟨r, hr, _⟩ := lsm_real (row m c s Y b l) (fun k => R.real b l k) (X b l)
    exact ⟨r, hr⟩
  choose g hg using hg
  have e1 : KernelRun.result m hO c (ix2 0 0) = acc m c s X Y 15 (by omega) := by
    unfold KernelRun.result
    rw [(outs hO R 15 (KernelRun.lastLt m hO)).1]
  have e2 := SumOrder.acc_last m c s X Y g hg
  have e3 := RefRows.ce_apply (argX m c) (argS m c) (argN m c) (argQ m c) (argE m c) (argT m c) (argW1 m c) (argb1 m c) (argW2 m c) (argb2 m c) s X Y hs R.token hY
  refine funext fun (i : S_.Idx) => ?_
  obtain rfl : i = Idealize.ShloMosaic.ix0 := funext fun a => a.elim0
  rw [scalar_apply, e1, e2]
  unfold ce
  rw [e3]
  rfl

/-- The reference's run, from a launch of the same arguments, ends at it. -/
theorem reference_value (m' : (ℓ : Loc ReferenceIdeal.nD ReferenceIdeal.τ ReferenceIdeal.sig) → Buf (Elt Ideal) ℓ) (c : Dev nD)
    (h0 : m' ((c.tc : Thread ReferenceIdeal.nD ReferenceIdeal.τ).loc ReferenceIdeal.main_arg0) = argX m c)
    (h1 : m' ((c.tc : Thread ReferenceIdeal.nD ReferenceIdeal.τ).loc ReferenceIdeal.main_arg1) = argS m c)
    (h2 : m' ((c.tc : Thread ReferenceIdeal.nD ReferenceIdeal.τ).loc ReferenceIdeal.main_arg2) = argN m c)
    (h4 : m' ((c.tc : Thread ReferenceIdeal.nD ReferenceIdeal.τ).loc ReferenceIdeal.main_arg4) = argQ m c)
    (h5 : m' ((c.tc : Thread ReferenceIdeal.nD ReferenceIdeal.τ).loc ReferenceIdeal.main_arg5) = argE m c)
    (h6 : m' ((c.tc : Thread ReferenceIdeal.nD ReferenceIdeal.τ).loc ReferenceIdeal.main_arg6) = argT m c)
    (h7 : m' ((c.tc : Thread ReferenceIdeal.nD ReferenceIdeal.τ).loc ReferenceIdeal.main_arg7) = argW1 m c)
    (h8 : m' ((c.tc : Thread ReferenceIdeal.nD ReferenceIdeal.τ).loc ReferenceIdeal.main_arg8) = argb1 m c)
    (h9 : m' ((c.tc : Thread ReferenceIdeal.nD ReferenceIdeal.τ).loc ReferenceIdeal.main_arg9) = argW2 m c)
    (h10 : m' ((c.tc : Thread ReferenceIdeal.nD ReferenceIdeal.τ).loc ReferenceIdeal.main_arg10) = argb2 m c) :
    StableHlo.after RefRun.ops (StableHlo.launchContents m' c) (Proc.devRef .tc ReferenceIdeal.main_v59) = ce m c := by
  rw [RefValue.result_eq]
  unfold RefValue.ceOf RefValue.guessOf RefValue.drawnOf ce
  rw [← h0, ← h1, ← h2, ← h4, ← h5, ← h6, ← h7, ← h8, ← h9, ← h10]

theorem claim : algebraic_KernelIdeal_ReferenceIdeal_pre_absorbing_chain := fun m g m' g' h hm =>
  have hO := Frames.kernelIdeal_ok m (Frames.steps_of_chain m h)
  ⟨ce m,
    (θ_run Cert.KernelIdeal.defs _ _).mono (fun r hr c => ⟨(hr.1 c).trans (value m h hO c), hr.2 c⟩) (θ_run_and (KernelRun.run m hO g) (Gen.unchanged m g hO)),
    (θ_run Cert.ReferenceIdeal.defs _ _).mono (fun r hr c =>
      have ha := hm c
      ⟨(hr.1 c ReferenceIdeal.main_v59).trans (reference_value m m' c ha.1 ha.2.1 ha.2.2.1 ha.2.2.2.2.1 ha.2.2.2.2.2.1 ha.2.2.2.2.2.2.1 ha.2.2.2.2.2.2.2.1 ha.2.2.2.2.2.2.2.2.1
          ha.2.2.2.2.2.2.2.2.2.1 ha.2.2.2.2.2.2.2.2.2.2),
        hr.2 c _ (by decide), hr.2 c _ (by decide), hr.2 c _ (by decide), hr.2 c _ (by decide), hr.2 c _ (by decide), hr.2 c _ (by decide),
        hr.2 c _ (by decide), hr.2 c _ (by decide), hr.2 c _ (by decide), hr.2 c _ (by decide), hr.2 c _ (by decide)⟩)
      (θ_run_and (RefRun.run m' g') (Frames.reference_run m' g'))⟩

end Cert.Algebraic

end
-- ==== Proof.lean ====
/- The claim's proof: the frames of the three programs, the ideal reading's faithfulness, and the value of the cross
   entropy. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_steps_in_range
public import proofs.«01_k».proof.Proof.Gen.Pre_absorbing_chain
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_steps_in_range.Gen.facts, Cert.Pre_absorbing_chain.Gen.facts,
    Frames.kernel, Frames.kernelIdeal, Frames.kernelIdeal_chain, Frames.reference, Frames.reference_chain, trivial, Algebraic.claim⟩

end Cert.Proof

end
